-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x1x512x512 : Shape := ⟨4, ![4, 1, 512, 512]⟩
abbrev S96x1x2x2 : Shape := ⟨4, ![96, 1, 2, 2]⟩
abbrev S96x96 : Shape := ⟨2, ![96, 96]⟩
abbrev S96 : Shape := ⟨1, ![96]⟩
abbrev S_ : Shape := ⟨0, ![]⟩

class Facts : Prop where
  bcast_S_S4x1x512x512 : S_.BroadcastsInDim S4x1x512x512 (![] : Fin 0 → Fin S4x1x512x512.rank)
  bcast_S_S96x1x2x2 : S_.BroadcastsInDim S96x1x2x2 (![] : Fin 0 → Fin S96x1x2x2.rank)
  bcast_S_S96x96 : S_.BroadcastsInDim S96x96 (![] : Fin 0 → Fin S96x96.rank)

variable [Facts]

def fn {F : FTy → Type} [FloatOps F] (main_arg0 : FVec F S4x1x512x512 .f32) (main_arg1 : FVec F S96x1x2x2 .f32) (main_arg2 : FVec F S96x96 .f32) (main_arg3 : FVec F S96 .f32) : IVec S4x1x512x512 1 × IVec S96x1x2x2 1 × IVec S96x96 1 :=
  let main_v0 : FVec F S4x1x512x512 .f32 := Host.absf main_arg0
  let main_cst : FVec F S_ .f32 := constant S_ .f32 0x7F800000#32
  let main_v1 : FVec F S4x1x512x512 .f32 := broadcastInDim S4x1x512x512 ![] bcast_S_S4x1x512x512 main_cst
  let main_v2 : IVec S4x1x512x512 1 := cmpf .olt main_v0 main_v1
  let main_v3 : FVec F S96x1x2x2 .f32 := Host.absf main_arg1
  let main_cst_0 : FVec F S_ .f32 := constant S_ .f32 0x7F800000#32
  let main_v4 : FVec F S96x1x2x2 .f32 := broadcastInDim S96x1x2x2 ![] bcast_S_S96x1x2x2 main_cst_0
  let main_v5 : IVec S96x1x2x2 1 := cmpf .olt main_v3 main_v4
  let main_v6 : FVec F S96x96 .f32 := Host.absf main_arg2
  let main_cst_1 : FVec F S_ .f32 := constant S_ .f32 0x7F800000#32
  let main_v7 : FVec F S96x96 .f32 := broadcastInDim S96x96 ![] bcast_S_S96x96 main_cst_1
  let main_v8 : IVec S96x96 1 := cmpf .olt main_v6 main_v7
  (main_v2, main_v5, main_v8)
-- ==== Kernel.lean ====
abbrev S4x1x512x512 : Shape := ⟨4, ![4, 1, 512, 512]⟩
abbrev S96x1x2x2 : Shape := ⟨4, ![96, 1, 2, 2]⟩
abbrev S96x96 : Shape := ⟨2, ![96, 96]⟩
abbrev S96 : Shape := ⟨1, ![96]⟩
abbrev S4x512x512 : Shape := ⟨3, ![4, 512, 512]⟩
abbrev S4x256x2x512 : Shape := ⟨4, ![4, 256, 2, 512]⟩
abbrev S96x4 : Shape := ⟨2, ![96, 4]⟩
abbrev S96x1 : Shape := ⟨2, ![96, 1]⟩
abbrev S4x96x65536 : Shape := ⟨3, ![4, 96, 65536]⟩
abbrev S1x1x2x512 : Shape := ⟨4, ![1, 1, 2, 512]⟩
abbrev S1x128x512 : Shape := ⟨3, ![1, 128, 512]⟩
abbrev S1x96x16384 : Shape := ⟨3, ![1, 96, 16384]⟩
abbrev S128x512 : Shape := ⟨2, ![128, 512]⟩
abbrev S128x128 : Shape := ⟨2, ![128, 128]⟩
abbrev S128x128x1 : Shape := ⟨3, ![128, 128, 1]⟩
abbrev S128x64 : Shape := ⟨2, ![128, 64]⟩
abbrev S128x256 : Shape := ⟨2, ![128, 256]⟩
abbrev S1x256 : Shape := ⟨2, ![1, 256]⟩
abbrev S4x256 : Shape := ⟨2, ![4, 256]⟩
abbrev S96x256 : Shape := ⟨2, ![96, 256]⟩
abbrev S1x96x256 : Shape := ⟨3, ![1, 96, 256]⟩
abbrev S2x512 : Shape := ⟨2, ![2, 512]⟩
abbrev S2x128 : Shape := ⟨2, ![2, 128]⟩
abbrev S2x128x1 : Shape := ⟨3, ![2, 128, 1]⟩
abbrev S2x64 : Shape := ⟨2, ![2, 64]⟩
abbrev S2x256 : Shape := ⟨2, ![2, 256]⟩
abbrev S96x255 : Shape := ⟨2, ![96, 255]⟩
abbrev S4x65536x96 : Shape := ⟨3, ![4, 65536, 96]⟩

abbrev nBuf : Space → Nat
  | .hbm => 10
  | .vmem => 11
  | .smem => 0
  | _ => 0

abbrev bufTy : (tb : Table) → Fin (tcTables nBuf tb) → BufTy
  | .hbm, ⟨0, _⟩ => ⟨S4x1x512x512, .f32⟩
  | .hbm, ⟨1, _⟩ => ⟨S96x1x2x2, .f32⟩
  | .hbm, ⟨2, _⟩ => ⟨S96x96, .f32⟩
  | .hbm, ⟨3, _⟩ => ⟨S96, .f32⟩
  | .hbm, ⟨4, _⟩ => ⟨S4x512x512, .f32⟩
  | .hbm, ⟨5, _⟩ => ⟨S4x256x2x512, .f32⟩
  | .hbm, ⟨6, _⟩ => ⟨S96x4, .f32⟩
  | .hbm, ⟨7, _⟩ => ⟨S96x1, .f32⟩
  | .hbm, ⟨8, _⟩ => ⟨S4x96x65536, .f32⟩
  | .hbm, ⟨9, _⟩ => ⟨S4x65536x96, .f32⟩
  | .local _ .vmem, ⟨0, _⟩ => ⟨S1x1x2x512, .f32⟩
  | .local _ .vmem, ⟨1, _⟩ => ⟨S1x1x2x512, .f32⟩
  | .local _ .vmem, ⟨2, _⟩ => ⟨S1x128x512, .f32⟩
  | .local _ .vmem, ⟨3, _⟩ => ⟨S1x128x512, .f32⟩
  | .local _ .vmem, ⟨4, _⟩ => ⟨S1x1x2x512, .f32⟩
  | .local _ .vmem, ⟨5, _⟩ => ⟨S1x1x2x512, .f32⟩
  | .local _ .vmem, ⟨6, _⟩ => ⟨S96x4, .f32⟩
  | .local _ .vmem, ⟨7, _⟩ => ⟨S96x96, .f32⟩
  | .local _ .vmem, ⟨8, _⟩ => ⟨S96x1, .f32⟩
  | .local _ .vmem, ⟨9, _⟩ => ⟨S1x96x16384, .f32⟩
  | .local _ .vmem, ⟨10, _⟩ => ⟨S1x96x16384, .f32⟩
  | _, _ => ⟨S4x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg0 : BitVec 32 := BitVec.ofNat 32 (i 0).val
  let c0_i32_25 : BitVec 32 := 0#32
  let v99 : BitVec 1 := Scalar.cmpi .ne arg0 c0_i32_25
  let v100 : BitVec 32 := Scalar.extui v99
  let c0_i32_26 : BitVec 32 := 0#32
  let v101 : BitVec 1 := Scalar.cmpi .ne v100 c0_i32_26
  v101

def k0_cond2 (i : grid0.Coords) : BitVec 1 :=
  let arg0 : BitVec 32 := BitVec.ofNat 32 (i 0).val
  let c0_i32_27 : BitVec 32 := 0#32
  let v102 : BitVec 1 := Scalar.cmpi .eq arg0 c0_i32_27
  let v103 : BitVec 32 := Scalar.extui v102
  let c0_i32_28 : BitVec 32 := 0#32
  let v104 : BitVec 1 := Scalar.cmpi .ne v103 c0_i32_28
  v104

def cc0_transform_0 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, v2.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c64_i32_0 : BitVec 32 := 64#32
  let v1 : BitVec 32 := Scalar.addi v0 c64_i32_0
  let c255_i32 : BitVec 32 := 255#32
  let v2 : BitVec 32 := Scalar.minsi v1 c255_i32
  let c0_i32 : BitVec 32 := 0#32
  let c0_i32_1 : BitVec 32 := 0#32
  let c0_i32_2 : BitVec 32 := 0#32
  ![arg0.toNat, v2.toNat, c0_i32.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S96x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S96x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x96x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x1x512x512 : Shape := ⟨4, ![4, 1, 512, 512]⟩
abbrev S96x1x2x2 : Shape := ⟨4, ![96, 1, 2, 2]⟩
abbrev S96x96 : Shape := ⟨2, ![96, 96]⟩
abbrev S96 : Shape := ⟨1, ![96]⟩
abbrev S4x1x256x2x256x2 : Shape := ⟨6, ![4, 1, 256, 2, 256, 2]⟩
abbrev S4x256x256x1x2x2 : Shape := ⟨6, ![4, 256, 256, 1, 2, 2]⟩
abbrev S4x65536x4 : Shape := ⟨3, ![4, 65536, 4]⟩
abbrev S96x4 : Shape := ⟨2, ![96, 4]⟩
abbrev S4x96 : Shape := ⟨2, ![4, 96]⟩
abbrev S4x65536x96 : Shape := ⟨3, ![4, 65536, 96]⟩
abbrev S262144x96 : Shape := ⟨2, ![262144, 96]⟩
abbrev S65536 : Shape := ⟨1, ![65536]⟩
abbrev S256x256 : Shape := ⟨2, ![256, 256]⟩
abbrev S255x256 : Shape := ⟨2, ![255, 256]⟩
abbrev S65280 : Shape := ⟨1, ![65280]⟩
abbrev S256x255 : Shape := ⟨2, ![256, 255]⟩
abbrev S261120 : Shape := ⟨1, ![261120]⟩
abbrev S262144 : Shape := ⟨1, ![262144]⟩
abbrev S523264 : Shape := ⟨1, ![523264]⟩
abbrev S_ : Shape := ⟨0, ![]⟩
abbrev S523264x1 : Shape := ⟨2, ![523264, 1]⟩
abbrev S523264x96 : Shape := ⟨2, ![523264, 96]⟩
abbrev S1x96 : Shape := ⟨2, ![1, 96]⟩

abbrev nBuf : Space → Nat
  | .hbm => 91
  | .vmem => 0
  | .smem => 0
  | _ => 0

abbrev bufTy : (tb : Table) → Fin (tcTables nBuf tb) → BufTy
  | .hbm, ⟨0, _⟩ => ⟨S4x1x512x512, .f32⟩
  | .hbm, ⟨1, _⟩ => ⟨S96x1x2x2, .f32⟩
  | .hbm, ⟨2, _⟩ => ⟨S96x96, .f32⟩
  | .hbm, ⟨3, _⟩ => ⟨S96, .f32⟩
  | .hbm, ⟨4, _⟩ => ⟨S4x1x256x2x256x2, .f32⟩
  | .hbm, ⟨5, _⟩ => ⟨S4x256x256x1x2x2, .f32⟩
  | .hbm, ⟨6, _⟩ => ⟨S4x65536x4, .f32⟩
  | .hbm, ⟨7, _⟩ => ⟨S96x4, .f32⟩
  | .hbm, ⟨8, _⟩ => ⟨S4x96, .f32⟩
  | .hbm, ⟨9, _⟩ => ⟨S4x65536x96, .f32⟩
  | .hbm, ⟨10, _⟩ => ⟨S262144x96, .f32⟩
  | .hbm, ⟨11, _⟩ => ⟨S65536, .i32⟩
  | .hbm, ⟨12, _⟩ => ⟨S256x256, .i32⟩
  | .hbm, ⟨13, _⟩ => ⟨S255x256, .i32⟩
  | .hbm, ⟨14, _⟩ => ⟨S65280, .i32⟩
  | .hbm, ⟨15, _⟩ => ⟨S255x256, .i32⟩
  | .hbm, ⟨16, _⟩ => ⟨S65280, .i32⟩
  | .hbm, ⟨17, _⟩ => ⟨S256x255, .i32⟩
  | .hbm, ⟨18, _⟩ => ⟨S65280, .i32⟩
  | .hbm, ⟨19, _⟩ => ⟨S256x255, .i32⟩
  | .hbm, ⟨20, _⟩ => ⟨S65280, .i32⟩
  | .hbm, ⟨21, _⟩ => ⟨S261120, .i32⟩
  | .hbm, ⟨22, _⟩ => ⟨S255x256, .i32⟩
  | .hbm, ⟨23, _⟩ => ⟨S65280, .i32⟩
  | .hbm, ⟨24, _⟩ => ⟨S255x256, .i32⟩
  | .hbm, ⟨25, _⟩ => ⟨S65280, .i32⟩
  | .hbm, ⟨26, _⟩ => ⟨S256x255, .i32⟩
  | .hbm, ⟨27, _⟩ => ⟨S65280, .i32⟩
  | .hbm, ⟨28, _⟩ => ⟨S256x255, .i32⟩
  | .hbm, ⟨29, _⟩ => ⟨S65280, .i32⟩
  | .hbm, ⟨30, _⟩ => ⟨S261120, .i32⟩
  | .hbm, ⟨31, _⟩ => ⟨S262144, .i32⟩
  | .hbm, ⟨32, _⟩ => ⟨S523264, .i32⟩
  | .hbm, ⟨33, _⟩ => ⟨S523264, .i32⟩
  | .hbm, ⟨34, _⟩ => ⟨S_, .f32⟩
  | .hbm, ⟨35, _⟩ => ⟨S523264, .f32⟩
  | .hbm, ⟨36, _⟩ => ⟨S_, .f32⟩
  | .hbm, ⟨37, _⟩ => ⟨S262144, .f32⟩
  | .hbm, ⟨38, _⟩ => ⟨S523264x1, .i32⟩
  | .hbm, ⟨39, _⟩ => ⟨S262144, .f32⟩
  | .hbm, ⟨40, _⟩ => ⟨S_, .f32⟩
  | .hbm, ⟨41, _⟩ => ⟨S262144, .f32⟩
  | .hbm, ⟨42, _⟩ => ⟨S262144, .i1⟩
  | .hbm, ⟨43, _⟩ => ⟨S262144, .f32⟩
  | .hbm, ⟨44, _⟩ => ⟨S_, .f32⟩
  | .hbm, ⟨45, _⟩ => ⟨S262144, .f32⟩
  | .hbm, ⟨46, _⟩ => ⟨S262144, .f32⟩
  | .hbm, ⟨47, _⟩ => ⟨S_, .f32⟩
  | .hbm, ⟨48, _⟩ => ⟨S_, .f32⟩
  | .hbm, ⟨49, _⟩ => ⟨S262144, .f32⟩
  | .hbm, ⟨50, _⟩ => ⟨S262144, .f32⟩
  | .hbm, ⟨51, _⟩ => ⟨S_, .i32⟩
  | .hbm, ⟨52, _⟩ => ⟨S523264, .i32⟩
  | .hbm, ⟨53, _⟩ => ⟨S523264, .i1⟩
  | .hbm, ⟨54, _⟩ => ⟨S_, .i32⟩
  | .hbm, ⟨55, _⟩ => ⟨S523264, .i32⟩
  | .hbm, ⟨56, _⟩ => ⟨S523264, .i32⟩
  | .hbm, ⟨57, _⟩ => ⟨S523264, .i32⟩
  | .hbm, ⟨58, _⟩ => ⟨S523264x1, .i32⟩
  | .hbm, ⟨59, _⟩ => ⟨S523264, .f32⟩
  | .hbm, ⟨60, _⟩ => ⟨S_, .i32⟩
  | .hbm, ⟨61, _⟩ => ⟨S523264, .i32⟩
  | .hbm, ⟨62, _⟩ => ⟨S523264, .i1⟩
  | .hbm, ⟨63, _⟩ => ⟨S_, .i32⟩
  | .hbm, ⟨64, _⟩ => ⟨S523264, .i32⟩
  | .hbm, ⟨65, _⟩ => ⟨S523264, .i32⟩
  | .hbm, ⟨66, _⟩ => ⟨S523264, .i32⟩
  | .hbm, ⟨67, _⟩ => ⟨S523264x1, .i32⟩
  | .hbm, ⟨68, _⟩ => ⟨S523264, .f32⟩
  | .hbm, ⟨69, _⟩ => ⟨S523264, .f32⟩
  | .hbm, ⟨70, _⟩ => ⟨S262144x96, .f32⟩
  | .hbm, ⟨71, _⟩ => ⟨S_, .i32⟩
  | .hbm, ⟨72, _⟩ => ⟨S523264, .i32⟩
  | .hbm, ⟨73, _⟩ => ⟨S523264, .i1⟩
  | .hbm, ⟨74, _⟩ => ⟨S_, .i32⟩
  | .hbm, ⟨75, _⟩ => ⟨S523264, .i32⟩
  | .hbm, ⟨76, _⟩ => ⟨S523264, .i32⟩
  | .hbm, ⟨77, _⟩ => ⟨S523264, .i32⟩
  | .hbm, ⟨78, _⟩ => ⟨S523264x1, .i32⟩
  | .hbm, ⟨79, _⟩ => ⟨S523264x96, .f32⟩
  | .hbm, ⟨80, _⟩ => ⟨S523264x1, .f32⟩
  | .hbm, ⟨81, _⟩ => ⟨S523264x96, .f32⟩
  | .hbm, ⟨82, _⟩ => ⟨S523264x96, .f32⟩
  | .hbm, ⟨83, _⟩ => ⟨S_, .f32⟩
  | .hbm, ⟨84, _⟩ => ⟨S262144x96, .f32⟩
  | .hbm, ⟨85, _⟩ => ⟨S523264x1, .i32⟩
  | .hbm, ⟨86, _⟩ => ⟨S262144x96, .f32⟩
  | .hbm, ⟨87, _⟩ => ⟨S1x96, .f32⟩
  | .hbm, ⟨88, _⟩ => ⟨S262144x96, .f32⟩
  | .hbm, ⟨89, _⟩ => ⟨S262144x96, .f32⟩
  | .hbm, ⟨90, _⟩ => ⟨S4x65536x96, .f32⟩
  | _, _ => ⟨S4x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_cst : Ref sig .tc := ⟨.hbm, 34, rfl⟩
abbrev main_v30 : Ref sig .tc := ⟨.hbm, 35, rfl⟩
abbrev main_cst_0 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst_1 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_2 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_call0_v0 : Ref sig .tc := ⟨.hbm, 48, rfl⟩
abbrev main_call0_v1 : Ref sig .tc := ⟨.hbm, 49, rfl⟩
abbrev main_v39 : Ref sig .tc := ⟨.hbm, 50, rfl⟩
abbrev main_c : Ref sig .tc := ⟨.hbm, 51, rfl⟩
abbrev main_v40 : Ref sig .tc := ⟨.hbm, 52, rfl⟩
abbrev main_v41 : Ref sig .tc := ⟨.hbm, 53, rfl⟩
abbrev main_c_4 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_5 : Ref sig .tc := ⟨.hbm, 60, rfl⟩
abbrev main_v47 : Ref sig .tc := ⟨.hbm, 61, rfl⟩
abbrev main_v48 : Ref sig .tc := ⟨.hbm, 62, rfl⟩
abbrev main_c_6 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_c_7 : Ref sig .tc := ⟨.hbm, 71, rfl⟩
abbrev main_v56 : Ref sig .tc := ⟨.hbm, 72, rfl⟩
abbrev main_v57 : Ref sig .tc := ⟨.hbm, 73, rfl⟩
abbrev main_c_8 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩

abbrev nD : Nat := 1
abbrev τ : Topo := Topo.v7x

variable {F : FTy → Type} [FloatOps F]
-- ==== Proof.RefIndex.lean ====
/- Where the reference's gathers read and its scatters add, at in-range index words. -/
module

public import proofs.«01_k».proof.Proof.Gen.ReferenceIdeal.Read
public import Idealize.ShloMosaic.Lib.Routing.OpsPair
public import Idealize.ShloMosaic.Lib.StableHlo.Predicate

@[expose] public section

noncomputable section

namespace Cert.ReferenceIdeal.Graph

open Idealize.ShloMosaic Idealize.ShloMosaic.ValueIdx
open Cert.ReferenceIdeal Cert.ReferenceIdeal.Gen

/-- The nodes and the edges. -/
abbrev Node := Fin 262144
abbrev Edge := Fin 523264

/-- A node's word read as an integer is the node. -/
theorem word_toInt {n : Nat} (h : n < 262144) : (BitVec.ofNat 32 n).toInt = (n : Int) :=
  StableHlo.Predicate.toInt_ofNat_small n (by omega)

/-- A gather of scalars at an in-range node word reads that node. -/
theorem gather_scalar {α : Type} (x : S262144.Idx → α) (idx : IVec S523264x1 32) (e : Edge) (n : Node)
    (h : idx (ix2 e (0 : Fin 1)) = BitVec.ofNat 32 n.val) :
    Host.gather gather_S262144_S523264x1_S523264_n_0_n_n_0_1_1 x idx (ix1 e) = x (ix1 n) := by
  unfold Host.gather
  congr 1
  funext a
  obtain rfl : a = 0 := Subsingleton.elim (α := Fin 1) _ _
  apply Fin.ext
  have hn := n.isLt
  have hs : gather_S262144_S523264x1_S523264_n_0_n_n_0_1_1.start (ix1 e) idx 0 = n.val := by
    unfold GatherDims.start
    rw [dif_pos (by decide)]
    have hsi : ∀ k, gather_S262144_S523264x1_S523264_n_0_n_n_0_1_1.siIdx (ix1 e) k = ix2 e (0 : Fin 1) := fun k => by
      funext b
      match b with
      | ⟨0, _⟩ => rfl
      | ⟨1, _⟩ => exact Subsingleton.elim (α := Fin 1) _ _
    rw [hsi, h, word_toInt hn]
    show min n.val 262143 = n.val
    omega
  show gather_S262144_S523264x1_S523264_n_0_n_n_0_1_1.start (ix1 e) idx 0 + 0 + 0 = n.val
  omega

/-- A gather of rows at an in-range node word reads that node's row. -/
theorem gather_row {α : Type} (x : S262144x96.Idx → α) (idx : IVec S523264x1 32) (e : Edge) (o : Fin 96) (n : Node)
    (h : idx (ix2 e (0 : Fin 1)) = BitVec.ofNat 32 n.val) :
    Host.gather gather_S262144x96_S523264x1_S523264x96_1_0_n_n_0_1_196 x idx (ix2 e o) = x (ix2 n o) := by
  unfold Host.gather
  congr 1
  have hn := n.isLt
  have hs : gather_S262144x96_S523264x1_S523264x96_1_0_n_n_0_1_196.start (ix2 e o) idx 0 = n.val := by
    unfold GatherDims.start
    rw [dif_pos (by decide)]
    have hsi : ∀ k, gather_S262144x96_S523264x1_S523264x96_1_0_n_n_0_1_196.siIdx (ix2 e o) k = ix2 e (0 : Fin 1) := fun k => by
      funext b
      match b with
      | ⟨0, _⟩ => rfl
      | ⟨1, _⟩ => exact Subsingleton.elim (α := Fin 1) _ _
    rw [hsi, h, word_toInt hn]
    show min n.val 262143 = n.val
    omega
  funext a
  apply Fin.ext
  match a with
  | ⟨0, _⟩ =>
    show gather_S262144x96_S523264x1_S523264x96_1_0_n_n_0_1_196.start (ix2 e o) idx 0 + 0 + 0 = n.val
    omega
  | ⟨1, _⟩ =>
    show 0 + 0 + o.val = o.val
    omega

/-- A scattered scalar at node word `n` lands at node `N` exactly when `n = N`. -/
theorem lands_scalar (idx : IVec S523264x1 32) (e : Edge) (n N : Node) (h : idx (ix2 e (0 : Fin 1)) = BitVec.ofNat 32 n.val) :
    scatter_S262144_S523264x1_S523264_n_0_0_1.resultIdx? (ix1 e) idx = some (ix1 N) ↔ n = N := by
  have hs : scatter_S262144_S523264x1_S523264_n_0_0_1.start (ix1 e) idx 0 = (n.val : Int) := by
    unfold ScatterDims.start
    rw [dif_pos (by decide)]
    have hsi : ∀ k, scatter_S262144_S523264x1_S523264_n_0_0_1.siIdx (ix1 e) k = ix2 e (0 : Fin 1) := fun k => by
      funext b
      match b with
      | ⟨0, _⟩ => rfl
      | ⟨1, _⟩ => exact Subsingleton.elim (α := Fin 1) _ _
    rw [hsi, h, word_toInt n.isLt]
  rw [Routing.resultIdx?_eq_some, Fin.ext_iff]
  constructor
  · intro q
    have q0 := q 0
    change _ + ((0 : Nat) : Int) = (N.val : Int) at q0
    omega
  · intro q a
    obtain rfl : a = 0 := Subsingleton.elim (α := Fin 1) _ _
    show _ + ((0 : Nat) : Int) = (N.val : Int)
    omega

/-- A scattered row's entry `o'` at node word `n` lands at `(N, o)` exactly when `n = N` and `o' = o`. -/
theorem lands_row (idx : IVec S523264x1 32) (e : Edge) (o' : Fin 96) (n N : Node) (o : Fin 96)
    (h : idx (ix2 e (0 : Fin 1)) = BitVec.ofNat 32 n.val) :
    scatter_S262144x96_S523264x1_S523264x96_1_0_0_1.resultIdx? (ix2 e o') idx = some (ix2 N o) ↔ n = N ∧ o' = o := by
  have hs : scatter_S262144x96_S523264x1_S523264x96_1_0_0_1.start (ix2 e o') idx 0 = (n.val : Int) := by
    unfold ScatterDims.start
    rw [dif_pos (by decide)]
    have hsi : ∀ k, scatter_S262144x96_S523264x1_S523264x96_1_0_0_1.siIdx (ix2 e o') k = ix2 e (0 : Fin 1) := fun k => by
      funext b
      match b with
      | ⟨0, _⟩ => rfl
      | ⟨1, _⟩ => exact Subsingleton.elim (α := Fin 1) _ _
    rw [hsi, h, word_toInt n.isLt]
  rw [Routing.resultIdx?_eq_some, Fin.ext_iff, Fin.ext_iff]
  constructor
  · intro q
    have q0 := q 0
    have q1 := q 1
    change _ + ((0 : Nat) : Int) = (N.val : Int) at q0
    change (0 : Int) + (o'.val : Int) = (o.val : Int) at q1
    omega
  · rintro ⟨q0, q1⟩ a
    match a with
    | ⟨0, _⟩ =>
      refine (congrArg (· + ((0 : Nat) : Int)) hs).trans ?_
      show (n.val : Int) + ((0 : Nat) : Int) = (N.val : Int)
      omega
    | ⟨1, _⟩ =>
      show (0 : Int) + (o'.val : Int) = (o.val : Int)
      omega

/-- A filtered sum over a rank-one index is a guarded sum over its coordinate. -/
theorem sum_filter_ix1 {n : Nat} (P : (⟨1, ![n]⟩ : Shape).Idx → Prop) [DecidablePred P] (f : (⟨1, ![n]⟩ : Shape).Idx → EReal) :
    ∑ j ∈ Finset.univ.filter P, f j = ∑ e : Fin n, if P (ix1 e) then f (ix1 e) else 0 := by
  rw [Finset.sum_filter]
  exact (Fintype.sum_equiv (⟨fun e => ix1 e, fun j => j 0, fun _ => rfl, fun j => (eq_ix1 j).symm⟩ : Fin n ≃ (⟨1, ![n]⟩ : Shape).Idx)
    _ _ fun e => rfl).symm

/-- A filtered sum over a rank-two index is a guarded double sum over its coordinates. -/
theorem sum_filter_ix2 {n k : Nat} (P : (⟨2, ![n, k]⟩ : Shape).Idx → Prop) [DecidablePred P] (f : (⟨2, ![n, k]⟩ : Shape).Idx → EReal) :
    ∑ j ∈ Finset.univ.filter P, f j = ∑ e : Fin n, ∑ o : Fin k, if P (ix2 e o) then f (ix2 e o) else 0 := by
  rw [Finset.sum_filter, sum_idx2]

/-- A scatter of scalars whose updates land by the map `p` adds, at each place, the updates mapped there. -/
theorem scatterAdd_ix1 {n k : Nat} {si : Shape} (D : ScatterDims ⟨1, ![n]⟩ si ⟨1, ![k]⟩) (x : FVec Ideal ⟨1, ![n]⟩ .f32)
    (idx : IVec si 32) (u : FVec Ideal ⟨1, ![k]⟩ .f32) (p : Fin k → Fin n) (N : Fin n)
    (h : ∀ e, D.resultIdx? (ix1 e) idx = some (ix1 N) ↔ p e = N) :
    Host.scatterAdd D x idx u (ix1 N) = x (ix1 N) + ∑ e : Fin k, if p e = N then u (ix1 e) else (0 : EReal) := by
  show x (ix1 N) + ∑ j ∈ Finset.univ.filter (fun j => D.resultIdx? j idx = some (ix1 N)), u j = _
  rw [sum_filter_ix1]
  congr 1
  exact Finset.sum_congr rfl fun e _ => if_congr (h e) rfl rfl

/-- A scatter of rows whose rows land by the map `p` adds, at each place, the rows mapped there. -/
theorem scatterAdd_ix2 {n k w : Nat} {si : Shape} (D : ScatterDims ⟨2, ![n, w]⟩ si ⟨2, ![k, w]⟩) (x : FVec Ideal ⟨2, ![n, w]⟩ .f32)
    (idx : IVec si 32) (u : FVec Ideal ⟨2, ![k, w]⟩ .f32) (p : Fin k → Fin n) (N : Fin n) (o : Fin w)
    (h : ∀ e o', D.resultIdx? (ix2 e o') idx = some (ix2 N o) ↔ p e = N ∧ o' = o) :
    Host.scatterAdd D x idx u (ix2 N o) = x (ix2 N o) + ∑ e : Fin k, if p e = N then u (ix2 e o) else (0 : EReal) := by
  show x (ix2 N o) + ∑ j ∈ Finset.univ.filter (fun j => D.resultIdx? j idx = some (ix2 N o)), u j = _
  rw [sum_filter_ix2]
  congr 1
  refine Finset.sum_congr rfl fun e _ => ?_
  refine (Finset.sum_congr rfl fun o' _ => if_congr (h e o') rfl rfl).trans ?_
  by_cases hd : p e = N
  · simp [hd]
  · simp [hd]

/-- A scatter of scalars by node words adds, at each node, the updates whose word is that node. -/
theorem scatter_scalar (x : FVec Ideal S262144 .f32) (idx : IVec S523264x1 32) (u : FVec Ideal S523264 .f32) (d : Edge → Node)
    (h : ∀ e, idx (ix2 e (0 : Fin 1)) = BitVec.ofNat 32 (d e).val) (N : Node) :
    Host.scatterAdd scatter_S262144_S523264x1_S523264_n_0_0_1 x idx u (ix1 N)
      = x (ix1 N) + ∑ e : Edge, if d e = N then u (ix1 e) else (0 : EReal) :=
  scatterAdd_ix1 _ x idx u d N fun e => lands_scalar idx e (d e) N (h e)

/-- A scatter of rows by node words adds, at each node, the rows whose word is that node. -/
theorem scatter_row (x : FVec Ideal S262144x96 .f32) (idx : IVec S523264x1 32) (u : FVec Ideal S523264x96 .f32) (d : Edge → Node)
    (h : ∀ e, idx (ix2 e (0 : Fin 1)) = BitVec.ofNat 32 (d e).val) (N : Node) (o : Fin 96) :
    Host.scatterAdd scatter_S262144x96_S523264x1_S523264x96_1_0_0_1 x idx u (ix2 N o)
      = x (ix2 N o) + ∑ e : Edge, if d e = N then u (ix2 e o) else (0 : EReal) :=
  scatterAdd_ix2 _ x idx u d N o fun e o' => lands_row idx e o' (d e) N o (h e)

end Cert.ReferenceIdeal.Graph
end
-- ==== Proof.RefEdges.lean ====
/- The reference's edge list: which node each edge word names, and a sum over the edges arriving at a node. -/
module

public import proofs.«01_k».proof.Proof.RefIndex

@[expose] public section

noncomputable section

namespace Cert.ReferenceIdeal.Graph

open Idealize.ShloMosaic Idealize.ShloMosaic.ValueIdx
open Cert.ReferenceIdeal Cert.ReferenceIdeal.Gen Cert.ReferenceIdeal.Read

/-- The four families of grid edges by their number inside the family: an end one row further down, an end `q`, an end one
    column further right, and the left end of such a pair. -/
abbrev below (q : Nat) : Nat := q + 256
abbrev leftEnd (q : Nat) : Nat := q / 255 * 256 + q % 255
abbrev rightEnd (q : Nat) : Nat := q / 255 * 256 + q % 255 + 1

/-- The node an edge starts at. -/
abbrev srcNat (e : Nat) : Nat :=
  if e < 65280 then below e else if e < 130560 then e - 65280 else if e < 195840 then rightEnd (e - 130560)
  else if e < 261120 then leftEnd (e - 195840) else e - 261120

/-- The node an edge arrives at. -/
abbrev dstNat (e : Nat) : Nat :=
  if e < 65280 then e else if e < 130560 then below (e - 65280) else if e < 195840 then leftEnd (e - 130560)
  else if e < 261120 then rightEnd (e - 195840) else e - 261120

/-- Every edge starts at a node. -/
theorem srcNat_lt {e : Nat} (h : e < 523264) : srcNat e < 262144 := by
  unfold srcNat below rightEnd leftEnd; split_ifs <;> omega

/-- Every edge arrives at a node. -/
theorem dstNat_lt {e : Nat} (h : e < 523264) : dstNat e < 262144 := by
  unfold dstNat below rightEnd leftEnd; split_ifs <;> omega

/-- The start and the arrival of an edge, as nodes. -/
def src (e : Edge) : Node := ⟨srcNat e.val, srcNat_lt e.isLt⟩
def dst (e : Edge) : Node := ⟨dstNat e.val, dstNat_lt e.isLt⟩

/-- Four equal pieces joined along their only axis: piece `k` at its own coordinate. -/
theorem join_four {α : Type} {n n₂ n₃ m : Nat} (h₂ : n + n = n₂) (h₃ : n + (n + n) = n₃) (x₀ x₁ x₂ x₃ : (⟨1, ![n]⟩ : Shape).Idx → α)
    (h : Shape.Concatenates [⟨1, ![n]⟩, ⟨1, ![n]⟩, ⟨1, ![n]⟩, ⟨1, ![n]⟩] ⟨1, ![m]⟩ 0) (hm : m = n₃ + n) (e : Fin m) :
    concatenate ⟨1, ![m]⟩ 0 [⟨⟨1, ![n]⟩, x₀⟩, ⟨⟨1, ![n]⟩, x₁⟩, ⟨⟨1, ![n]⟩, x₂⟩, ⟨⟨1, ![n]⟩, x₃⟩] h (ix1 e)
      = if k₀ : e.val < n then x₀ (ix1 ⟨e.val, k₀⟩)
        else if k₁ : e.val < n₂ then x₁ (ix1 ⟨e.val - n, by omega⟩)
        else if k₂ : e.val < n₃ then x₂ (ix1 ⟨e.val - n₂, by omega⟩)
        else x₃ (ix1 ⟨e.val - n₃, by omega⟩) := by
  have one : ∀ b : Fin 1, b ≠ 0 → False := fun b hb => hb (Subsingleton.elim (α := Fin 1) _ _)
  have piece := concatenate_apply_piece (t := ⟨1, ![m]⟩) 0
    [⟨⟨1, ![n]⟩, x₀⟩, ⟨⟨1, ![n]⟩, x₁⟩, ⟨⟨1, ![n]⟩, x₂⟩, ⟨⟨1, ![n]⟩, x₃⟩] h (ix1 e)
  split_ifs with k₀ k₁ k₂
  · exact piece 0 (by simp) ⟨1, ![n]⟩ x₀ rfl rfl 0 rfl (ix1 ⟨e.val, k₀⟩) (fun b hb => (one b hb).elim) (by show 0 + e.val = e.val; omega)
  · exact piece 1 (by simp) ⟨1, ![n]⟩ x₁ rfl rfl n rfl (ix1 ⟨e.val - n, by omega⟩)
      (fun b hb => (one b hb).elim) (by show n + (e.val - n) = e.val; omega)
  · exact piece 2 (by simp) ⟨1, ![n]⟩ x₂ rfl rfl n₂ (by rw [← h₂]; rfl) (ix1 ⟨e.val - n₂, by omega⟩)
      (fun b hb => (one b hb).elim) (by show n₂ + (e.val - n₂) = e.val; omega)
  · exact piece 3 (by simp) ⟨1, ![n]⟩ x₃ rfl rfl n₃ (by rw [← h₃]; rfl) (ix1 ⟨e.val - n₃, by omega⟩)
      (fun b hb => (one b hb).elim) (by show n₃ + (e.val - n₃) = e.val; omega)

/-- The grid edges followed by the loops. -/
theorem join_loops {α : Type} (x : S261120.Idx → α) (y : S262144.Idx → α) (h : Shape.Concatenates [S261120, S262144] S523264 0)
    (e : Edge) :
    concatenate S523264 0 [⟨S261120, x⟩, ⟨S262144, y⟩] h (ix1 e)
      = if h₀ : e.val < 261120 then x (ix1 ⟨e.val, h₀⟩) else y (ix1 ⟨e.val - 261120, by omega⟩) := by
  have one : ∀ b : Fin 1, b.cast rfl ≠ (0 : Fin S523264.rank) → False := fun b hb => hb (Subsingleton.elim (α := Fin 1) _ _)
  split_ifs with h₀
  · exact concatenate_apply_piece (t := S523264) 0 [⟨S261120, x⟩, ⟨S262144, y⟩] h _ 0 (by simp) S261120 x rfl rfl 0 rfl (ix1 ⟨e.val, h₀⟩)
      (fun b hb => (one b hb).elim) (by show 0 + e.val = e.val; omega)
  · exact concatenate_apply_piece (t := S523264) 0 [⟨S261120, x⟩, ⟨S262144, y⟩] h _ 1 (by simp) S262144 y rfl rfl 261120 rfl (ix1 ⟨e.val - 261120, by omega⟩)
      (fun b hb => (one b hb).elim) (by show 261120 + (e.val - 261120) = e.val; omega)

variable {F : FTy → Type} [FloatOps F]

/-- The eight pieces of the two end lists. -/
theorem v10_word (q : Fin 65280) : val_main_v10 (F := F) (ix1 q) = BitVec.ofNat 32 (below q.val) := by
  rw [val_main_v10_apply, val_main_v9_apply, val_main_v8_apply, val_main_v7_apply]
  exact congrArg _ (by show (1 + q.val / 256) * 256 + q.val % 256 = q.val + 256; omega)

/-- The upper end of a vertical pair. -/
theorem v12_word (q : Fin 65280) : val_main_v12 (F := F) (ix1 q) = BitVec.ofNat 32 q.val := by
  rw [val_main_v12_apply, val_main_v11_apply, val_main_v8_apply, val_main_v7_apply]
  exact congrArg _ (by show q.val / 256 * 256 + q.val % 256 = q.val; omega)

/-- The right end of a horizontal pair. -/
theorem v14_word (q : Fin 65280) : val_main_v14 (F := F) (ix1 q) = BitVec.ofNat 32 (rightEnd q.val) := by
  rw [val_main_v14_apply, val_main_v13_apply, val_main_v8_apply, val_main_v7_apply]
  exact congrArg _ (by show q.val / 255 * 256 + (1 + q.val % 255) = q.val / 255 * 256 + q.val % 255 + 1; omega)

/-- The left end of a horizontal pair. -/
theorem v16_word (q : Fin 65280) : val_main_v16 (F := F) (ix1 q) = BitVec.ofNat 32 (leftEnd q.val) := by
  rw [val_main_v16_apply, val_main_v15_apply, val_main_v8_apply, val_main_v7_apply]

/-- The arrivals list the same four ends with each pair the other way round. -/
theorem v19_word (q : Fin 65280) : val_main_v19 (F := F) (ix1 q) = BitVec.ofNat 32 q.val := v12_word q
theorem v21_word (q : Fin 65280) : val_main_v21 (F := F) (ix1 q) = BitVec.ofNat 32 (below q.val) := v10_word q
theorem v23_word (q : Fin 65280) : val_main_v23 (F := F) (ix1 q) = BitVec.ofNat 32 (leftEnd q.val) := v16_word q
theorem v25_word (q : Fin 65280) : val_main_v25 (F := F) (ix1 q) = BitVec.ofNat 32 (rightEnd q.val) := v14_word q

/-- The word of an edge's start. -/
theorem v28_word (e : Edge) : val_main_v28 (F := F) (ix1 e) = BitVec.ofNat 32 (src e).val := by
  unfold val_main_v28
  rw [join_loops]
  show _ = BitVec.ofNat 32 (srcNat e.val)
  unfold srcNat
  split_ifs <;> first | omega | skip
  all_goals first | (rw [val_main_v27_apply]; done) | skip
  all_goals unfold val_main_v17
  all_goals rw [join_four (n := 65280) (n₂ := 130560) (n₃ := 195840) (m := 261120) rfl rfl _ _ _ _ _ rfl]
  all_goals simp only [*, v10_word, v12_word, v14_word, v16_word, dite_true, dite_false]

/-- The word of an edge's arrival. -/
theorem v29_word (e : Edge) : val_main_v29 (F := F) (ix1 e) = BitVec.ofNat 32 (dst e).val := by
  unfold val_main_v29
  rw [join_loops]
  show _ = BitVec.ofNat 32 (dstNat e.val)
  unfold dstNat
  split_ifs <;> first | omega | skip
  all_goals first | (rw [val_main_v27_apply]; done) | skip
  all_goals unfold val_main_v26
  all_goals rw [join_four (n := 65280) (n₂ := 130560) (n₃ := 195840) (m := 261120) rfl rfl _ _ _ _ _ rfl]
  all_goals simp only [*, v19_word, v21_word, v23_word, v25_word, dite_true, dite_false]

/-- An index wrapped at negative values is itself, at a node's word. -/
theorem wrap_node (n : Node) (w a : BitVec 32) (hw : w = BitVec.ofNat 32 n.val) :
    Scalar.select (IntOp.cmpi .slt w 0#32) a w = BitVec.ofNat 32 n.val := by
  rw [Routing.wrap_of_lt w a (by subst hw; have := n.isLt; simp only [BitVec.toNat_ofNat]; omega), hw]

/-- The index columns of the scatters hold the arrivals; those of the gathers hold the starts or the arrivals. -/
theorem v32_word (e : Edge) : val_main_v32 (F := F) (ix2 e (0 : Fin 1)) = BitVec.ofNat 32 (dst e).val := by
  rw [val_main_v32_apply, ← v29_word (F := F) e]; exact congrArg _ (eq_ix1 _)

/-- The index column of the second scatter: the arrivals. -/
theorem v67_word (e : Edge) : val_main_v67 (F := F) (ix2 e (0 : Fin 1)) = BitVec.ofNat 32 (dst e).val := v32_word e

/-- The index column of the first gather: the starts. -/
theorem v45_word (e : Edge) : val_main_v45 (F := F) (ix2 e (0 : Fin 1)) = BitVec.ofNat 32 (src e).val := by
  have hi : idx_main_v45 (ix2 e (0 : Fin 1)) = ix1 e := funext fun a => match a with
    | ⟨0, _⟩ => rfl
  rw [val_main_v45_apply, hi, val_main_v44_apply, val_main_v41_apply, val_main_v40_apply, val_main_c_apply]
  exact wrap_node (src e) _ _ (v28_word e)

/-- The index column of the message gather: the starts. -/
theorem v61_word (e : Edge) : val_main_v61 (F := F) (ix2 e (0 : Fin 1)) = BitVec.ofNat 32 (src e).val := v45_word e

/-- The index column of the second gather: the arrivals. -/
theorem v52_word (e : Edge) : val_main_v52 (F := F) (ix2 e (0 : Fin 1)) = BitVec.ofNat 32 (dst e).val := by
  have hi : idx_main_v52 (ix2 e (0 : Fin 1)) = ix1 e := funext fun a => match a with
    | ⟨0, _⟩ => rfl
  rw [val_main_v52_apply, hi, val_main_v51_apply, val_main_v48_apply, val_main_v47_apply, val_main_c_5_apply]
  exact wrap_node (dst e) _ _ (v29_word e)

/-- A guarded sum that at most one place can meet. -/
theorem sum_range_pick (n : Nat) (K : Nat → EReal) (c : Prop) [Decidable c] (q : Nat) (v : EReal) (hq : c → q < n)
    (hv : c → K q = v) (h0 : ∀ x, x < n → ¬ (c ∧ x = q) → K x = 0) :
    ∑ x ∈ Finset.range n, K x = if c then v else 0 := by
  split_ifs with hc
  · rw [← hv hc]
    exact Finset.sum_eq_single q (fun x hx hne => h0 x (Finset.mem_range.mp hx) fun h => hne h.2)
      fun hn => absurd (Finset.mem_range.mpr (hq hc)) hn
  · exact Finset.sum_eq_zero fun x hx => h0 x (Finset.mem_range.mp hx) fun h => hc h.1

/-- The grid neighbours of node `N` in image 0: below, above, right and left. -/
def neighbours (H : Nat → EReal) (N : Nat) : EReal :=
  (if N < 65280 then H (N + 256) else 0) + (if 256 ≤ N ∧ N < 65536 then H (N - 256) else 0)
    + (if N < 65536 ∧ N % 256 < 255 then H (N + 1) else 0) + (if N < 65536 ∧ 0 < N % 256 then H (N - 1) else 0)

/-- A sum over the edges arriving at `N`, of a value of the edge's start: the grid neighbours and the node itself. -/
theorem edge_sum (H : Nat → EReal) (N : Node) :
    (∑ e : Edge, if dst e = N then H (src e).val else (0 : EReal)) = neighbours H N.val + H N.val := by
  have hN := N.isLt
  have e1 : (∑ e : Edge, if dst e = N then H (src e).val else (0 : EReal))
      = ∑ e : Fin (65280 + 65280 + 65280 + 65280 + 262144),
          (fun k : Nat => if dstNat k = N.val then H (srcNat k) else (0 : EReal)) e.val :=
    Finset.sum_congr rfl fun e _ => if_congr Fin.ext_iff rfl rfl
  rw [e1, Fin.sum_univ_eq_sum_range (fun k : Nat => if dstNat k = N.val then H (srcNat k) else (0 : EReal)),
    Finset.sum_range_add, Finset.sum_range_add, Finset.sum_range_add, Finset.sum_range_add]
  unfold neighbours
  refine congrArg₂ (· + ·) (congrArg₂ (· + ·) (congrArg₂ (· + ·) (congrArg₂ (· + ·) ?_ ?_) ?_) ?_) ?_
  · refine sum_range_pick _ _ _ N.val _ (fun h => h) (fun h => ?_) fun x hx hn => if_neg ?_
    · rw [if_pos (by unfold dstNat; rw [if_pos h])]; unfold srcNat below; rw [if_pos h]
    · unfold dstNat; rw [if_pos hx]; omega
  · refine sum_range_pick _ _ _ (N.val - 256) _ (fun h => by omega) (fun h => ?_) fun x hx hn => if_neg ?_
    · rw [if_pos (by unfold dstNat below; split_ifs <;> omega)]
      exact congrArg H (by unfold srcNat; split_ifs <;> omega)
    · unfold dstNat below; split_ifs <;> omega
  · refine sum_range_pick _ _ _ (N.val / 256 * 255 + N.val % 256) _ (fun h => by omega) (fun h => ?_) fun x hx hn => if_neg ?_
    · rw [if_pos (by unfold dstNat leftEnd; split_ifs <;> omega)]
      exact congrArg H (by unfold srcNat rightEnd; split_ifs <;> omega)
    · unfold dstNat leftEnd; split_ifs <;> omega
  · refine sum_range_pick _ _ _ (N.val / 256 * 255 + N.val % 256 - 1) _ (fun h => by omega) (fun h => ?_) fun x hx hn => if_neg ?_
    · rw [if_pos (by unfold dstNat rightEnd; split_ifs <;> omega)]
      exact congrArg H (by unfold srcNat leftEnd; split_ifs <;> omega)
    · unfold dstNat rightEnd; split_ifs <;> omega
  · refine (sum_range_pick _ _ True N.val _ (fun _ => hN) (fun _ => ?_) fun x hx hn => if_neg ?_).trans (if_pos trivial)
    · rw [if_pos (by unfold dstNat; split_ifs <;> omega)]
      exact congrArg H (by unfold srcNat; split_ifs <;> omega)
    · have hx' : x ≠ N.val := fun h => hn ⟨trivial, h⟩
      unfold dstNat; split_ifs <;> omega

end Cert.ReferenceIdeal.Graph
end
-- ==== Proof.Pieces.lean ====
/- What one grid point of the kernel stores, written once for all 64 patch rows of its tile.

   The printed body stores 64 rows of 256 patches, each by its own unrolled text. Here the same stores are given by one
   formula with the row number as a variable, for the plain tiles (images 1–3) and for the stencil tiles (image 0). -/
module

public import proofs.«01_k».proof.Proof.Gen.KernelIdeal.Frame
public import Idealize.ShloMosaic.Lib.Pipeline.Value
public import Idealize.ShloMosaic.Lib.ValueIdx

@[expose] public section

set_option maxRecDepth 16384

noncomputable section

namespace Cert.KernelIdeal.Rows

open Idealize.ShloMosaic Idealize.ShloMosaic.TcCoe Idealize.ShloMosaic.Tactic
open Idealize.SL Idealize.SL.Sem
open Cert.KernelIdeal.Gen

variable {F : FTy → Type} [FloatOps F]

/-- The shape facts that splitting the columns of an image strip of `R` rows into even and odd ones needs. -/
structure Splits (R : Nat) : Prop where
  lanes : (⟨2, ![R, 128]⟩ : Shape).Iotas .tc 32 [1]
  up : (⟨2, ![R, 128]⟩ : Shape).ShapeCasts ⟨3, ![R, 128, 1]⟩
  down : (⟨3, ![R, 128, 1]⟩ : Shape).ShapeCasts ⟨2, ![R, 128]⟩
  cut : ∀ c : Fin 4, (⟨2, ![R, 512]⟩ : Shape).Slices ![0, 128 * c.val] ⟨2, ![R, 128]⟩
  half : (⟨2, ![R, 128]⟩ : Shape).Slices ![0, 0] ⟨2, ![R, 64]⟩
  join : Shape.Concatenates [⟨2, ![R, 64]⟩, ⟨2, ![R, 64]⟩, ⟨2, ![R, 64]⟩, ⟨2, ![R, 64]⟩] ⟨2, ![R, 256]⟩ 1

/-- The side conditions at a strip of 128 rows. -/
theorem splits128 : Splits 128 := ⟨by decide, by decide, by decide, by decide, by decide, by decide⟩
/-- The side conditions at a halo of two rows. -/
theorem splits2 : Splits 2 := ⟨by decide, by decide, by decide, by decide, by decide, by decide⟩

section Deinterleave
variable {R : Nat} (s : Splits R)

/-- Lane `l` holds `2 l` wrapped below 128: the even lanes' numbers, twice over. -/
def evenLanes : IVec ⟨2, ![R, 128]⟩ 32 :=
  andi (muli (iota .tc ⟨2, ![R, 128]⟩ 32 [1] s.lanes) (broadcast _ 2#32)) (broadcast _ 126#32)

/-- The odd lanes' numbers. -/
def oddLanes : IVec ⟨2, ![R, 128]⟩ 32 := addi (evenLanes s) (broadcast _ 1#32)

/-- Lane numbers below zero count from the end; then the cast to a column of indices and back. -/
def wrapped (v : IVec ⟨2, ![R, 128]⟩ 32) : IVec ⟨2, ![R, 128]⟩ 32 :=
  shapeCast ⟨2, ![R, 128]⟩ (shapeCast ⟨3, ![R, 128, 1]⟩
    (select (cmpi .slt v (broadcast _ 0#32)) (addi v (broadcast _ 128#32)) v) s.up) s.down

/-- Of the 128-column chunk `c`, the 64 columns the lane numbers name. -/
def chunk (v : IVec ⟨2, ![R, 128]⟩ 32) (x : FVec F ⟨2, ![R, 512]⟩ .f32) (c : Fin 4) : FVec F ⟨2, ![R, 64]⟩ .f32 :=
  extractStridedSlice ⟨2, ![R, 64]⟩ ![0, 0]
    (dynamicGather 1 (extractStridedSlice ⟨2, ![R, 128]⟩ ![0, 128 * c.val] x (s.cut c)) (wrapped s v)) s.half

/-- The four chunks side by side. -/
def joined (v : IVec ⟨2, ![R, 128]⟩ 32) (x : FVec F ⟨2, ![R, 512]⟩ .f32) : FVec F ⟨2, ![R, 256]⟩ .f32 :=
  concatenate ⟨2, ![R, 256]⟩ 1 [⟨⟨2, ![R, 64]⟩, chunk s v x 0⟩, ⟨⟨2, ![R, 64]⟩, chunk s v x 1⟩,
    ⟨⟨2, ![R, 64]⟩, chunk s v x 2⟩, ⟨⟨2, ![R, 64]⟩, chunk s v x 3⟩] s.join

/-- The even columns of a strip. -/
def evens (x : FVec F ⟨2, ![R, 512]⟩ .f32) : FVec F ⟨2, ![R, 256]⟩ .f32 := joined s (evenLanes s) x
/-- The odd columns of a strip. -/
def odds (x : FVec F ⟨2, ![R, 512]⟩ .f32) : FVec F ⟨2, ![R, 256]⟩ .f32 := joined s (oddLanes s) x

/-- A row of a strip of 256 columns is a slice of it. -/
theorem rowSlices {r : Nat} (h : r < R) : (⟨2, ![R, 256]⟩ : Shape).Slices ![r, 0] S1x256 :=
  ⟨rfl, fun a => by fin_cases a <;> simp <;> omega⟩

/-- The four pixels of each patch of a patch row, one row of 256 per pixel. -/
def slab (x : FVec F ⟨2, ![R, 512]⟩ .f32) (r : Nat) (h : r + 1 < R) : FVec F S4x256 .f32 :=
  concatenate S4x256 0
    [⟨S1x256, extractStridedSlice S1x256 ![r, 0] (evens s x) (rowSlices (Nat.lt_of_succ_lt h))⟩,
      ⟨S1x256, extractStridedSlice S1x256 ![r, 0] (odds s x) (rowSlices (Nat.lt_of_succ_lt h))⟩,
      ⟨S1x256, extractStridedSlice S1x256 ![r + 1, 0] (evens s x) (rowSlices h)⟩,
      ⟨S1x256, extractStridedSlice S1x256 ![r + 1, 0] (odds s x) (rowSlices h)⟩]
    concatenates_S1x256_S1x256_S1x256_S1x256_S4x256_d0

/-- A patch row through the 96 × 4 coefficients. -/
def feats (cf : FVec F S96x4 .f32) (x : FVec F ⟨2, ![R, 512]⟩ .f32) (r : Nat) (h : r + 1 < R) : FVec F S96x256 .f32 :=
  matmul dot_S96x4_S4x256_S96x256_1_0_0_1_n_n none cf (slab s x r h) (constant S96x256 .f32 0x00000000#32)

end Deinterleave

/-- The 96 × 4 coefficients: the linear map's weights on the patch weights. -/
def coeffs (gw : Vec F S96x96 .f32) (wk : Vec F S96x4 .f32) : FVec F S96x4 .f32 :=
  matmul dot_S96x96_S96x4_S96x4_0_0_1_1_n_n (some .fp32) gw (shapeCast S96x4 wk shapeCasts_S96x4_S96x4)
    (constant S96x4 .f32 0x00000000#32)

/-- The bias column. -/
def biasCol (b : Vec F S96x1 .f32) : FVec F S96x1 .f32 := shapeCast S96x1 b shapeCasts_S96x1_S96x1

/-- The tile's strip of 128 image rows. -/
def strip (x : Vec F S1x128x512 .f32) : FVec F S128x512 .f32 := shapeCast S128x512 x shapeCasts_S1x128x512_S128x512
/-- A neighbouring patch row's two image rows. -/
def halo (x : Vec F S1x1x2x512 .f32) : FVec F S2x512 .f32 := shapeCast S2x512 x shapeCasts_S1x1x2x512_S2x512

/-- The rectangle of patch row `i` in the tile. -/
theorem rowInb {i : Nat} (h : i < 64) :
    ∀ a, (![0, 0, 256 * i] : Fin 3 → Nat) a + S1x96x256.size a ≤ S1x96x16384.size a := by
  intro a; fin_cases a <;> simp <;> omega

/-- A list of 64 stores, last first, from the store of each patch row. -/
def pieces (f : (i : Nat) → i < 64 → FVec F S1x96x256 .f32) : (n : Nat) → n ≤ 64 → List (View.Piece (Elt F) S1x96x16384 .f32)
  | 0, _ => []
  | n + 1, h => ⟨Rect.unit ![0, 0, 256 * n] S1x96x256.size (rowInb h), f n h⟩ :: pieces f n (Nat.le_of_succ_le h)

/-- Every store of the list is that of some patch row. -/
theorem mem_pieces (f : (i : Nat) → i < 64 → FVec F S1x96x256 .f32) :
    ∀ (n : Nat) (hn : n ≤ 64) (p), p ∈ pieces f n hn →
      ∃ (i : Nat) (h : i < 64), p = ⟨Rect.unit ![0, 0, 256 * i] S1x96x256.size (rowInb h), f i h⟩
  | 0, _, p, hp => by simp [pieces] at hp
  | n + 1, h, p, hp => by
    rcases List.mem_cons.mp hp with rfl | hp
    · exact ⟨n, h, rfl⟩
    · exact mem_pieces f n _ p hp

/-! ## The plain tiles -/

/-- What a plain tile stores for patch row `i`. -/
def plainRow (cf : FVec F S96x4 .f32) (b : FVec F S96x1 .f32) (x : FVec F S128x512 .f32) (i : Nat) (h : i < 64) :
    FVec F S1x96x256 .f32 :=
  shapeCast S1x96x256 (addf (feats splits128 cf x (2 * i) (by omega))
    (broadcastTo S96x256 b broadcasts_S96x1_S96x256)) shapeCasts_S96x256_S1x96x256

/-! ## The stencil tiles -/

/-- The number of horizontal neighbours of each column. -/
def sideCount : FVec F S1x256 .f32 :=
  addf (sitofp .f32 (extui 32 (cmpi .sgt (iota .tc S1x256 32 [1] iota_S1x256_d1_w32) (broadcast S1x256 0#32)) natLt_1_32))
    (sitofp .f32 (extui 32 (cmpi .slt (iota .tc S1x256 32 [1] iota_S1x256_d1_w32) (broadcast S1x256 255#32)) natLt_1_32))

/-- The inverse root degree of a patch row with both vertical neighbours. -/
def innerScale : FVec F S1x256 .f32 := rsqrt (addf (broadcast S1x256 (Scalar.ofBits .f32 0x40400000#32)) sideCount)
/-- The inverse root degree of a patch row on the image's upper or lower edge. -/
def edgeScale : FVec F S1x256 .f32 := rsqrt (addf (broadcast S1x256 (Scalar.ofBits .f32 0x40000000#32)) sideCount)

/-- The inverse root degree of tile `w`'s patch row `i`. -/
def rowScale (w : BitVec 32) (i : Nat) : FVec F S1x256 .f32 :=
  Scalar.select (Scalar.ori (Scalar.cmpi .eq (Scalar.addi (Scalar.muli w 64#32) (BitVec.ofNat 32 i)) 0#32)
    (Scalar.cmpi .eq (Scalar.addi (Scalar.muli w 64#32) (BitVec.ofNat 32 i)) 255#32)) edgeScale innerScale

/-- One where there is a tile above. -/
def aboveMask (w : BitVec 32) : F .f32 := Scalar.sitofp .f32 (Scalar.extui (Scalar.cmpi .sgt w 0#32))
/-- One where there is a tile below. -/
def belowMask (w : BitVec 32) : F .f32 := Scalar.sitofp .f32 (Scalar.extui (Scalar.cmpi .slt w 3#32))

/-- A neighbouring tile's nearest patch row, scaled, or zero where there is none. -/
def haloRow (cf : FVec F S96x4 .f32) (x : FVec F S2x512 .f32) (mask : F .f32) : FVec F S96x256 .f32 :=
  mulf (feats splits2 cf x 0 (by omega))
    (broadcastTo S96x256 (mulf innerScale (broadcast S1x256 mask)) broadcasts_S1x256_S96x256)

/-- The tile's patch row `i`, scaled. -/
def midRow (cf : FVec F S96x4 .f32) (x : FVec F S128x512 .f32) (w : BitVec 32) (i : Nat) (h : i < 64) : FVec F S96x256 .f32 :=
  mulf (feats splits128 cf x (2 * i) (by omega)) (broadcastTo S96x256 (rowScale w i) broadcasts_S1x256_S96x256)

/-- The scaled patch rows the stencil reads, from the one above the tile (0) to the one below (65). -/
def rowAt (cf : FVec F S96x4 .f32) (xt : FVec F S2x512 .f32) (x : FVec F S128x512 .f32) (xb : FVec F S2x512 .f32)
    (w : BitVec 32) : Nat → FVec F S96x256 .f32
  | 0 => haloRow cf xt (aboveMask w)
  | k + 1 => if h : k < 64 then midRow cf x w k h else haloRow cf xb (belowMask w)

/-- A column of zeros. -/
def zeroCol : FVec F S96x1 .f32 := broadcast S96x1 (Scalar.ofBits .f32 0x00000000#32)

/-- A patch row moved one column right, -/
def fromLeft (y : FVec F S96x256 .f32) : FVec F S96x256 .f32 :=
  concatenate S96x256 1 [⟨S96x1, zeroCol⟩, ⟨S96x255, extractStridedSlice S96x255 ![0, 0] y slices_S96x256_o0_0_S96x255⟩]
    concatenates_S96x1_S96x255_S96x256_d1
/-- and one column left. -/
def fromRight (y : FVec F S96x256 .f32) : FVec F S96x256 .f32 :=
  concatenate S96x256 1 [⟨S96x255, extractStridedSlice S96x255 ![0, 1] y slices_S96x256_o0_1_S96x255⟩, ⟨S96x1, zeroCol⟩]
    concatenates_S96x255_S96x1_S96x256_d1

/-- What a stencil tile stores for patch row `i`, from the scaled patch rows `ys`. -/
def stencilRow (b : FVec F S96x1 .f32) (ys : Nat → FVec F S96x256 .f32) (w : BitVec 32) (i : Nat) : FVec F S1x96x256 .f32 :=
  shapeCast S1x96x256 (addf (mulf (addf (addf (addf (ys (i + 1)) (ys i)) (addf (ys (i + 2)) (fromLeft (ys (i + 1)))))
      (fromRight (ys (i + 1)))) (broadcastTo S96x256 (rowScale w i) broadcasts_S1x256_S96x256))
    (broadcastTo S96x256 b broadcasts_S96x1_S96x256)) shapeCasts_S96x256_S1x96x256

end Cert.KernelIdeal.Rows
end
-- ==== Proof.Stores.lean ====
/- The stores the printed body makes are those of the rows' formulas. -/
module

public import proofs.«01_k».proof.Proof.Pieces

@[expose] public section

set_option maxRecDepth 16384

noncomputable section

namespace Cert.KernelIdeal.Rows

open Idealize.ShloMosaic Idealize.ShloMosaic.TcCoe Idealize.ShloMosaic.Tactic
open Idealize.SL Idealize.SL.Sem
open Cert.KernelIdeal.Gen

variable {F : FTy → Type} [FloatOps F]

section
variable (c : Dev nD) (i : grid0.Coords)
  (arg2 : Memref sig .tc .vmem S1x1x2x512 .f32) (harg2 : arg2.IsWhole)
  (arg3 : Memref sig .tc .vmem S1x128x512 .f32) (harg3 : arg3.IsWhole)
  (arg4 : Memref sig .tc .vmem S1x1x2x512 .f32) (harg4 : arg4.IsWhole)
  (arg5 : Memref sig .tc .vmem S96x4 .f32) (harg5 : arg5.IsWhole)
  (arg6 : Memref sig .tc .vmem S96x96 .f32) (harg6 : arg6.IsWhole)
  (arg7 : Memref sig .tc .vmem S96x1 .f32) (harg7 : arg7.IsWhole)
  (arg8 : Memref sig .tc .vmem S1x96x16384 .f32) (harg8 : arg8.IsWhole)
  (x0 : Vec F S1x1x2x512 .f32) (x1 : Vec F S1x128x512 .f32) (x2 : Vec F S1x1x2x512 .f32) (x3 : Vec F S96x4 .f32)
  (x4 : Vec F S96x96 .f32) (x5 : Vec F S96x1 .f32)

/-- A load of the whole of a staging buffer, at the offsets the body names. -/
def load {s : Shape} (a : Memref sig .tc .vmem s .f32) (ha : a.IsWhole) (off : Fin s.rank → Nat)
    (h : ∀ b, off b + s.size b ≤ s.size b) (x : Vec F s .f32) : Vec F s .f32 :=
  View.readAt (s := s) (Elt F) a.view (Rect.unit off s.size h).toLoadRect (ha.unread x)

/-- The plain case's stores. -/
theorem stores_plain (hc0 : cond0_0 i) (hc1 : ¬cond0_1 i) :
    (kernelRun0_B c i arg2 harg2 arg3 harg3 arg4 harg4 arg5 harg5 arg6 harg6 arg7 harg7 arg8 harg8 hc0 hc1 x0 x1 x2 x3 x4 x5).1
      = pieces (plainRow (coeffs (load arg6 harg6 ![0, 0] inb_S96x96_S96x96_0_0 x4) (load arg5 harg5 ![0, 0] inb_S96x4_S96x4_0_0 x3)) (biasCol (load arg7 harg7 ![0, 0] inb_S96x1_S96x1_0_0 x5))
          (strip (load arg3 harg3 ![0, 0, 0] inb_S1x128x512_S1x128x512_0_0_0 x1))) 64 (Nat.le_refl 64) := by
  unfold kernelRun0_B
  sl_kernel_rfl

/-- The stencil case's stores. -/
theorem stores_stencil (hc0 : ¬cond0_0 i) (hc1 : cond0_1 i) :
    (kernelRun0_A c i arg2 harg2 arg3 harg3 arg4 harg4 arg5 harg5 arg6 harg6 arg7 harg7 arg8 harg8 hc0 hc1 x0 x1 x2 x3 x4 x5).1
      = pieces (fun k _ => stencilRow (biasCol (load arg7 harg7 ![0, 0] inb_S96x1_S96x1_0_0 x5))
          (rowAt (coeffs (load arg6 harg6 ![0, 0] inb_S96x96_S96x96_0_0 x4) (load arg5 harg5 ![0, 0] inb_S96x4_S96x4_0_0 x3)) (halo (load arg2 harg2 ![0, 0, 0, 0] inb_S1x1x2x512_S1x1x2x512_0_0_0_0 x0))
            (strip (load arg3 harg3 ![0, 0, 0] inb_S1x128x512_S1x128x512_0_0_0 x1)) (halo (load arg4 harg4 ![0, 0, 0, 0] inb_S1x1x2x512_S1x1x2x512_0_0_0_0 x2)) (BitVec.ofNat 32 (i 1)))
          (BitVec.ofNat 32 (i 1)) k) 64 (Nat.le_refl 64) := by
  unfold kernelRun0_A
  sl_kernel_rfl
end
end Cert.KernelIdeal.Rows
end
-- ==== Proof.RowValues.lean ====
/- The rows' formulas read at an index, at the exact values. -/
module

public import proofs.«01_k».proof.Proof.Pieces
public import Idealize.ShloMosaic.Lib.MatmulPlain
public import Idealize.ShloMosaic.PureOps.Ideal.Laws

@[expose] public section

noncomputable section

namespace Cert.KernelIdeal.Rows

open Idealize.ShloMosaic Idealize.ShloMosaic.ValueIdx
open Cert.KernelIdeal.Gen

/-! ## Even and odd columns -/

section Deinterleave
variable {R : Nat} (s : Splits R)

/-- The number the wrapped even lane `l < 64` ends with is `2 l`. -/
theorem even_word : ∀ l : Fin 64,
    (Scalar.select (Scalar.cmpi .slt (IntOp.andi (IntOp.muli (BitVec.ofNat 32 l.val) 2#32) 126#32) 0#32)
      (IntOp.addi (IntOp.andi (IntOp.muli (BitVec.ofNat 32 l.val) 2#32) 126#32) 128#32)
      (IntOp.andi (IntOp.muli (BitVec.ofNat 32 l.val) 2#32) 126#32)).toNat = 2 * l.val := by decide +kernel

/-- The number the wrapped odd lane `l < 64` ends with is `2 l + 1`. -/
theorem odd_word : ∀ l : Fin 64,
    (Scalar.select (Scalar.cmpi .slt (IntOp.addi (IntOp.andi (IntOp.muli (BitVec.ofNat 32 l.val) 2#32) 126#32) 1#32) 0#32)
      (IntOp.addi (IntOp.addi (IntOp.andi (IntOp.muli (BitVec.ofNat 32 l.val) 2#32) 126#32) 1#32) 128#32)
      (IntOp.addi (IntOp.andi (IntOp.muli (BitVec.ofNat 32 l.val) 2#32) 126#32) 1#32)).toNat = 2 * l.val + 1 := by
  decide +kernel

/-- Lane `l` of the even index. -/
theorem evenLanes_apply (r : Fin R) (l : Fin 128) :
    evenLanes s (ix2 r l) = IntOp.andi (IntOp.muli (BitVec.ofNat 32 l.val) 2#32) 126#32 :=
  congrArg (fun w => IntOp.andi (IntOp.muli w 2#32) 126#32) (iota_single_apply .tc ⟨2, ![R, 128]⟩ 32 1 s.lanes (ix2 r l))

/-- An index with negative entries moved up by the row length. -/
theorem wrapped_apply (v : IVec ⟨2, ![R, 128]⟩ 32) (i : (⟨2, ![R, 128]⟩ : Shape).Idx) :
    wrapped s v i = Scalar.select (Scalar.cmpi .slt (v i) 0#32) (IntOp.addi (v i) 128#32) (v i) := by
  unfold wrapped
  rw [shapeCast_shapeCast]
  rfl

/-- Lane `l < 64` of the even index names column `2 l`. -/
theorem wrapped_even (r : Fin R) (l : Fin 64) :
    (wrapped s (evenLanes s) (ix2 r (⟨l.val, by omega⟩ : Fin 128))).toNat = 2 * l.val := by
  rw [wrapped_apply, evenLanes_apply]
  exact even_word l

/-- Lane `l < 64` of the odd index names column `2 l + 1`. -/
theorem wrapped_odd (r : Fin R) (l : Fin 64) :
    (wrapped s (oddLanes s) (ix2 r (⟨l.val, by omega⟩ : Fin 128))).toNat = 2 * l.val + 1 := by
  rw [wrapped_apply, show oddLanes s (ix2 r (⟨l.val, by omega⟩ : Fin 128))
    = IntOp.addi (evenLanes s (ix2 r (⟨l.val, by omega⟩ : Fin 128))) 1#32 from rfl, evenLanes_apply]
  exact odd_word l

/-- A chunk's column `l` is the strip's column `128 c + p`, `p` being the number lane `l` names. -/
theorem chunk_apply (v : IVec ⟨2, ![R, 128]⟩ 32) (x : FVec Ideal ⟨2, ![R, 512]⟩ .f32) (c : Fin 4) (r : Fin R) (l : Fin 64)
    (p : Nat) (hp : p < 128) (hv : (wrapped s v (ix2 r (⟨l.val, by omega⟩ : Fin 128))).toNat = p) :
    chunk s v x c (ix2 r l) = x (ix2 r ⟨128 * c.val + p, by omega⟩) := by
  unfold chunk
  rw [extractStridedSlice_apply _ _ s.half (ix2 r l) (ix2 r (⟨l.val, by omega⟩ : Fin 128)) (by
    intro a; fin_cases a
    · show r.val = 0 + r.val; omega
    · show l.val = 0 + l.val; omega)]
  unfold dynamicGather
  refine extractStridedSlice_apply _ _ (s.cut c) _ _ ?_
  intro a; fin_cases a
  · show r.val = 0 + r.val; omega
  · show 128 * c.val + p = 128 * c.val + (wrapped s v (ix2 r (⟨l.val, by omega⟩ : Fin 128))).toNat % 128
    rw [hv, Nat.mod_eq_of_lt hp]

/-- Column `j` of the four chunks side by side. -/
theorem joined_apply (v : IVec ⟨2, ![R, 128]⟩ 32) (x : FVec Ideal ⟨2, ![R, 512]⟩ .f32) (d : Nat) (hd : d < 2)
    (hv : ∀ (r : Fin R) (l : Fin 64), (wrapped s v (ix2 r (⟨l.val, by omega⟩ : Fin 128))).toNat = 2 * l.val + d)
    (r : Fin R) (j : Fin 256) :
    joined s v x (ix2 r j) = x (ix2 r ⟨2 * j.val + d, by omega⟩) := by
  unfold joined
  refine (concatenate_ofFn_apply (t := ⟨2, ![R, 256]⟩) (s₁ := ⟨2, ![R, 64]⟩) 1 (fun c : Fin 4 => chunk s v x c) s.join rfl 64 rfl
    (ix2 r j) ⟨j.val / 64, by omega⟩ rfl (ix2 r (⟨j.val % 64, by omega⟩ : Fin 64)) rfl (by
      intro b hb; fin_cases b
      · rfl
      · exact absurd rfl hb)).trans ?_
  rw [chunk_apply s v x _ r _ (2 * (j.val % 64) + d) (by omega) (hv r _)]
  congr 2
  exact Fin.ext (by show 128 * (j.val / 64) + (2 * (j.val % 64) + d) = 2 * j.val + d; omega)

/-- The even columns, -/
theorem evens_apply (x : FVec Ideal ⟨2, ![R, 512]⟩ .f32) (r : Fin R) (j : Fin 256) :
    evens s x (ix2 r j) = x (ix2 r ⟨2 * j.val, by omega⟩) :=
  joined_apply s _ x 0 (by omega) (wrapped_even s) r j
/-- and the odd ones. -/
theorem odds_apply (x : FVec Ideal ⟨2, ![R, 512]⟩ .f32) (r : Fin R) (j : Fin 256) :
    odds s x (ix2 r j) = x (ix2 r ⟨2 * j.val + 1, by omega⟩) :=
  joined_apply s _ x 1 (by omega) (wrapped_odd s) r j

/-- One row of a strip. -/
theorem row_apply (y : FVec Ideal ⟨2, ![R, 256]⟩ .f32) (r : Nat) (h : r < R) (j : Fin 256) :
    extractStridedSlice S1x256 ![r, 0] y (rowSlices h) (ix2 (0 : Fin 1) j) = y (ix2 ⟨r, h⟩ j) :=
  extractStridedSlice_apply _ _ _ _ _ (by
    intro a; fin_cases a
    · show r = r + 0; omega
    · show j.val = 0 + j.val; omega)

/-- Row `k` of the slab is pixel `k` of each patch: image row `r + k / 2`, column `2 j + k % 2`. -/
theorem slab_apply (x : FVec Ideal ⟨2, ![R, 512]⟩ .f32) (r : Nat) (h : r + 1 < R) (k : Fin 4) (j : Fin 256) :
    slab s x r h (ix2 k j) = x (ix2 ⟨r + k.val / 2, by omega⟩ ⟨2 * j.val + k.val % 2, by omega⟩) := by
  unfold slab
  refine (concatenate_ofFn_unit_apply (t := S4x256) (s₁ := S1x256) 0
    (fun k : Fin 4 => ![extractStridedSlice S1x256 ![r, 0] (evens s x) (rowSlices (Nat.lt_of_succ_lt h)),
      extractStridedSlice S1x256 ![r, 0] (odds s x) (rowSlices (Nat.lt_of_succ_lt h)),
      extractStridedSlice S1x256 ![r + 1, 0] (evens s x) (rowSlices h),
      extractStridedSlice S1x256 ![r + 1, 0] (odds s x) (rowSlices h)] k)
    concatenates_S1x256_S1x256_S1x256_S1x256_S4x256_d0 rfl rfl (ix2 k j) k rfl (ix2 (0 : Fin 1) j) (by
      intro b hb; fin_cases b
      · exact absurd rfl hb
      · rfl)).trans ?_
  fin_cases k
  · exact (row_apply _ r _ j).trans (evens_apply s x _ j)
  · exact (row_apply _ r _ j).trans (odds_apply s x _ j)
  · exact (row_apply _ (r + 1) _ j).trans (evens_apply s x _ j)
  · exact (row_apply _ (r + 1) _ j).trans (odds_apply s x _ j)

/-- A patch row through the coefficients, at channel `o` and patch `j`. -/
theorem feats_apply (cf : FVec Ideal S96x4 .f32) (x : FVec Ideal ⟨2, ![R, 512]⟩ .f32) (r : Nat) (h : r + 1 < R)
    (o : Fin 96) (j : Fin 256) :
    feats s cf x r h (ix2 o j)
      = ∑ k : Fin 4, cf (ix2 o k) * x (ix2 ⟨r + k.val / 2, by omega⟩ ⟨2 * j.val + k.val % 2, by omega⟩) := by
  unfold feats
  refine (Ideal.matmul_plain_apply (M := 96) (K := 4) (N := 256) none cf (slab s x r h) _ o j).trans ?_
  have h0 : (constant S96x256 .f32 0x00000000#32 : FVec Ideal S96x256 .f32) (ix2 o j) = (0 : EReal) := Ideal.ofBits_zero_f32
  rw [h0, zero_add]
  exact Finset.sum_congr rfl fun k _ => by rw [slab_apply]

end Deinterleave

/-- The coefficients at channel `o` and pixel `k`. -/
theorem coeffs_apply (gw : FVec Ideal S96x96 .f32) (wk : FVec Ideal S96x4 .f32) (o : Fin 96) (k : Fin 4) :
    coeffs gw wk (ix2 o k) = ∑ e : Fin 96, gw (ix2 e o) * wk (ix2 e k) := by
  unfold coeffs
  rw [shapeCast_self]
  have h0 : (constant S96x4 .f32 0x00000000#32 : FVec Ideal S96x4 .f32) (ix2 o k) = (0 : EReal) := Ideal.ofBits_zero_f32
  let d := dot_S96x96_S96x4_S96x4_0_0_1_1_n_n
  refine (Ideal.matmul_apply d (some .fp32) gw wk _ (ix2 o k)).trans ?_
  rw [h0, zero_add, ← Equiv.sum_comp (contrEquiv1 d 96 rfl rfl).symm]
  refine Finset.sum_congr rfl fun e _ => ?_
  have hk := contrEquiv1_symm_val d 96 rfl rfl e
  have el : d.lhsIdx (ix2 o k) ((contrEquiv1 d 96 rfl rfl).symm e) = ix2 e o := by
    funext a; apply Fin.ext
    match a with
    | ⟨0, _⟩ => exact hk
    | ⟨1, _⟩ => rfl
  have er : d.rhsIdx (ix2 o k) ((contrEquiv1 d 96 rfl rfl).symm e) = ix2 e k := by
    funext a; apply Fin.ext
    match a with
    | ⟨0, _⟩ => exact hk
    | ⟨1, _⟩ => rfl
  rw [el, er]

end Cert.KernelIdeal.Rows
end
-- ==== Proof.StencilValues.lean ====
/- The stencil rows' formulas read at an index, at the exact values: the inverse root degrees as real numbers, the
   shifted rows, and what a plain and a stencil tile store. -/
module

public import proofs.«01_k».proof.Proof.RowValues

@[expose] public section

noncomputable section

namespace Cert.KernelIdeal.Rows

open Idealize.ShloMosaic Idealize.ShloMosaic.ValueIdx
open Cert.KernelIdeal.Gen

/-- The number of horizontal neighbours of column `j`. -/
def sides (j : Nat) : ℝ := (if 0 < j then 1 else 0) + (if j < 255 then 1 else 0)

/-- The number of vertical neighbours of patch row `i`. -/
def ends (i : Nat) : ℝ := (if 0 < i then 1 else 0) + (if i < 255 then 1 else 0)

/-- The inverse root degree of patch `(i, j)`: one over the root of its neighbours and itself. -/
def scale (i j : Nat) : ℝ := (√(1 + ends i + sides j))⁻¹

/-- An inner patch row has two vertical neighbours. -/
theorem ends_inner {i : Nat} (h0 : i ≠ 0) (h1 : i < 255) : ends i = 2 := by
  unfold ends; rw [if_pos (by omega), if_pos h1]; norm_num

/-- The first and the last patch row have one. -/
theorem ends_edge {i : Nat} (h : i = 0 ∨ i = 255) : ends i = 1 := by
  unfold ends; rcases h with rfl | rfl <;> norm_num

/-- There are no fewer than no horizontal neighbours. -/
theorem sides_nonneg (j : Nat) : 0 ≤ sides j := by
  unfold sides; split <;> split <;> norm_num

/-- There are no fewer than no vertical neighbours. -/
theorem ends_nonneg (j : Nat) : 0 ≤ ends j := sides_nonneg j

/-- The word comparisons behind `sides`. -/
theorem gt_word : ∀ j : Fin 256, ((IntOp.cmpi .sgt (BitVec.ofNat 32 j.val) 0#32).setWidth 32).toInt = if 0 < j.val then 1 else 0 := by
  decide +kernel
theorem lt_word : ∀ j : Fin 256, ((IntOp.cmpi .slt (BitVec.ofNat 32 j.val) 255#32).setWidth 32).toInt = if j.val < 255 then 1 else 0 := by
  decide +kernel

/-- The computed count of horizontal neighbours. -/
theorem sideCount_apply (j : Fin 256) : (sideCount (F := Ideal)) (ix2 (0 : Fin 1) j) = ((sides j.val : ℝ) : EReal) := by
  have e : iota .tc S1x256 32 [1] iota_S1x256_d1_w32 (ix2 (0 : Fin 1) j) = BitVec.ofNat 32 j.val :=
    iota_single_apply .tc S1x256 32 1 iota_S1x256_d1_w32 _
  show (((((IntOp.cmpi .sgt (iota .tc S1x256 32 [1] iota_S1x256_d1_w32 (ix2 (0 : Fin 1) j)) 0#32).setWidth 32).toInt : ℝ) : EReal))
    + (((((IntOp.cmpi .slt (iota .tc S1x256 32 [1] iota_S1x256_d1_w32 (ix2 (0 : Fin 1) j)) 255#32).setWidth 32).toInt : ℝ) : EReal)) = _
  rw [e, gt_word, lt_word, ← EReal.coe_add]
  congr 1
  unfold sides
  push_cast
  rfl

/-- The word of three. -/
theorem ofBits_three : Ideal.ofBits .f32 0x40400000#32 = ((3 : ℝ) : EReal) := by
  simp [Ideal.ofBits, Ideal.ieee, -EReal.coe_mul]; norm_num
/-- The word of two. -/
theorem ofBits_two : Ideal.ofBits .f32 0x40000000#32 = ((2 : ℝ) : EReal) := by
  simp [Ideal.ofBits, Ideal.ieee, -EReal.coe_mul]; norm_num

/-- The inverse root of a positive real. -/
theorem rsqrt_pos {r : ℝ} (h : 0 < r) : Ideal.rsqrt (r : EReal) = (((√r)⁻¹ : ℝ) : EReal) := by
  show (if r < 0 then (⊥ : EReal) else if r = 0 then ⊤ else (((√r)⁻¹ : ℝ) : EReal)) = _
  rw [if_neg (by linarith), if_neg h.ne']

/-- The inverse root degree along an inner patch row. -/
theorem innerScale_apply (j : Fin 256) :
    (innerScale (F := Ideal)) (ix2 (0 : Fin 1) j) = (((√(3 + sides j.val))⁻¹ : ℝ) : EReal) := by
  show Ideal.rsqrt (Ideal.ofBits .f32 0x40400000#32 + (sideCount (F := Ideal)) (ix2 (0 : Fin 1) j)) = _
  rw [sideCount_apply, ofBits_three, ← EReal.coe_add, rsqrt_pos (by have := sides_nonneg j.val; linarith)]

/-- The inverse root degree along the first or last patch row. -/
theorem edgeScale_apply (j : Fin 256) :
    (edgeScale (F := Ideal)) (ix2 (0 : Fin 1) j) = (((√(2 + sides j.val))⁻¹ : ℝ) : EReal) := by
  show Ideal.rsqrt (Ideal.ofBits .f32 0x40000000#32 + (sideCount (F := Ideal)) (ix2 (0 : Fin 1) j)) = _
  rw [sideCount_apply, ofBits_two, ← EReal.coe_add, rsqrt_pos (by have := sides_nonneg j.val; linarith)]

/-- The word test for an edge row. -/
theorem edge_word : ∀ (T : Fin 4) (i : Fin 64),
    Scalar.ori (Scalar.cmpi .eq (Scalar.addi (Scalar.muli (BitVec.ofNat 32 T.val) 64#32) (BitVec.ofNat 32 i.val)) 0#32)
      (Scalar.cmpi .eq (Scalar.addi (Scalar.muli (BitVec.ofNat 32 T.val) 64#32) (BitVec.ofNat 32 i.val)) 255#32)
      = if 64 * T.val + i.val = 0 ∨ 64 * T.val + i.val = 255 then 1#1 else 0#1 := by decide +kernel

/-- Tile `T`'s patch row `i` is scaled by the image's patch row `64 T + i`. -/
theorem rowScale_apply (T : Fin 4) (i : Fin 64) (j : Fin 256) :
    (rowScale (F := Ideal) (BitVec.ofNat 32 T.val) i.val) (ix2 (0 : Fin 1) j) = ((scale (64 * T.val + i.val) j.val : ℝ) : EReal) := by
  unfold rowScale
  rw [edge_word]
  by_cases h : 64 * T.val + i.val = 0 ∨ 64 * T.val + i.val = 255
  · rw [if_pos h]
    refine (edgeScale_apply j).trans ?_
    unfold scale; rw [ends_edge h]; norm_num
  · rw [if_neg h]
    refine (innerScale_apply j).trans ?_
    unfold scale; rw [ends_inner (by omega) (by omega)]; norm_num

/-- The word comparisons behind the halo masks. -/
theorem above_word : ∀ T : Fin 4, (Scalar.extui (Scalar.cmpi .sgt (BitVec.ofNat 32 T.val) 0#32) : BitVec 32).toInt = if 0 < T.val then 1 else 0 := by
  decide +kernel
theorem below_word : ∀ T : Fin 4, (Scalar.extui (Scalar.cmpi .slt (BitVec.ofNat 32 T.val) 3#32) : BitVec 32).toInt = if T.val < 3 then 1 else 0 := by
  decide +kernel

/-- The mask of the row above is one except at the first tile. -/
theorem aboveMask_eq (T : Fin 4) : aboveMask (F := Ideal) (BitVec.ofNat 32 T.val) = (((if 0 < T.val then 1 else 0 : ℝ)) : EReal) := by
  show (((Scalar.extui (Scalar.cmpi .sgt (BitVec.ofNat 32 T.val) 0#32) : BitVec 32).toInt : ℝ) : EReal) = _
  rw [above_word]; push_cast; rfl
/-- The mask of the row below is one except at the last tile. -/
theorem belowMask_eq (T : Fin 4) : belowMask (F := Ideal) (BitVec.ofNat 32 T.val) = (((if T.val < 3 then 1 else 0 : ℝ)) : EReal) := by
  show (((Scalar.extui (Scalar.cmpi .slt (BitVec.ofNat 32 T.val) 3#32) : BitVec 32).toInt : ℝ) : EReal) = _
  rw [below_word]; push_cast; rfl

/-- A row broadcast over the channels, -/
theorem bcastRow_apply (v : FVec Ideal S1x256 .f32) (o : Fin 96) (j : Fin 256) :
    broadcastTo S96x256 v broadcasts_S1x256_S96x256 (ix2 o j) = v (ix2 (0 : Fin 1) j) :=
  broadcastTo_apply v _ _ _ (by intro a; fin_cases a <;> rfl)
/-- and a column over the patches. -/
theorem bcastCol_apply (v : FVec Ideal S96x1 .f32) (o : Fin 96) (j : Fin 256) :
    broadcastTo S96x256 v broadcasts_S96x1_S96x256 (ix2 o j) = v (ix2 o (0 : Fin 1)) :=
  broadcastTo_apply v _ _ _ (by intro a; fin_cases a <;> rfl)

/-- A stored row is a row of its block. -/
theorem stored_apply (v : FVec Ideal S96x256 .f32) (z : Fin 1) (o : Fin 96) (j : Fin 256) :
    shapeCast S1x96x256 v shapeCasts_S96x256_S1x96x256 (ix3 z o j) = v (ix2 o j) :=
  shapeCast_apply v _ _ _ (by
    rw [Shape.rowMajor_val_two, Shape.rowMajor_val_three]
    have := z.isLt
    show o.val * 256 + j.val = (z.val * 96 + o.val) * 256 + j.val
    omega)

/-- The value of the left neighbour, zero at the first column. -/
theorem fromLeft_apply (y : FVec Ideal S96x256 .f32) (o : Fin 96) (j : Fin 256) :
    fromLeft y (ix2 o j) = if h : 0 < j.val then y (ix2 o ⟨j.val - 1, by omega⟩) else 0 := by
  unfold fromLeft
  by_cases h : 0 < j.val
  · rw [dif_pos h]
    refine (concatenate_pair_apply_right (t := S96x256) (s₁ := S96x1) (s₂ := S96x255) 1 zeroCol _ _ (ix2 o j) rfl rfl
      (ix2 o (⟨j.val - 1, by omega⟩ : Fin 255)) (by
        intro b hb; fin_cases b
        · rfl
        · exact absurd rfl hb) (by show j.val - 1 + 1 = j.val; omega)).trans ?_
    exact extractStridedSlice_apply (s := S96x256) (t := S96x255) _ _ _ _ _ (by
      intro a; fin_cases a
      · show o.val = 0 + o.val; omega
      · show j.val - 1 = 0 + (j.val - 1); omega)
  · rw [dif_neg h]
    refine (concatenate_pair_apply_left (t := S96x256) (s₁ := S96x1) (s₂ := S96x255) 1 zeroCol _ _ (ix2 o j) rfl (ix2 o (0 : Fin 1)) (by
      intro b; fin_cases b
      · rfl
      · show 0 = j.val; omega)).trans ?_
    exact Ideal.ofBits_zero_f32

/-- The value of the right neighbour, zero at the last column. -/
theorem fromRight_apply (y : FVec Ideal S96x256 .f32) (o : Fin 96) (j : Fin 256) :
    fromRight y (ix2 o j) = if h : j.val < 255 then y (ix2 o ⟨j.val + 1, by omega⟩) else 0 := by
  unfold fromRight
  by_cases h : j.val < 255
  · rw [dif_pos h]
    refine (concatenate_pair_apply_left (t := S96x256) (s₁ := S96x255) (s₂ := S96x1) 1 _ zeroCol _ (ix2 o j) rfl (ix2 o (⟨j.val, h⟩ : Fin 255)) (by
      intro b; fin_cases b
      · rfl
      · rfl)).trans ?_
    exact extractStridedSlice_apply (s := S96x256) (t := S96x255) _ _ _ _ _ (by
      intro a; fin_cases a
      · show o.val = 0 + o.val; omega
      · show j.val + 1 = 1 + j.val; omega)
  · rw [dif_neg h]
    refine (concatenate_pair_apply_right (t := S96x256) (s₁ := S96x255) (s₂ := S96x1) 1 _ zeroCol _ (ix2 o j) rfl rfl
      (ix2 o (0 : Fin 1)) (by
        intro b hb; fin_cases b
        · rfl
        · exact absurd rfl hb) (by show 0 + 255 = j.val; have := j.isLt; omega)).trans ?_
    exact Ideal.ofBits_zero_f32

/-- What a plain tile stores. -/
theorem plainRow_apply (cf : FVec Ideal S96x4 .f32) (b : FVec Ideal S96x1 .f32) (x : FVec Ideal S128x512 .f32) (i : Nat)
    (h : i < 64) (z : Fin 1) (o : Fin 96) (j : Fin 256) :
    plainRow cf b x i h (ix3 z o j) = feats splits128 cf x (2 * i) (by omega) (ix2 o j) + b (ix2 o (0 : Fin 1)) := by
  unfold plainRow
  rw [stored_apply]
  exact congrArg (_ + ·) (bcastCol_apply b o j)

/-- What a stencil tile stores. -/
theorem stencilRow_apply (b : FVec Ideal S96x1 .f32) (ys : Nat → FVec Ideal S96x256 .f32) (T : Fin 4) (i : Fin 64)
    (z : Fin 1) (o : Fin 96) (j : Fin 256) :
    stencilRow b ys (BitVec.ofNat 32 T.val) i.val (ix3 z o j)
      = (((ys (i.val + 1) (ix2 o j) + ys i.val (ix2 o j))
          + (ys (i.val + 2) (ix2 o j) + if h : 0 < j.val then ys (i.val + 1) (ix2 o ⟨j.val - 1, by omega⟩) else 0))
          + if h : j.val < 255 then ys (i.val + 1) (ix2 o ⟨j.val + 1, by omega⟩) else 0)
        * ((scale (64 * T.val + i.val) j.val : ℝ) : EReal) + b (ix2 o (0 : Fin 1)) := by
  unfold stencilRow
  rw [stored_apply, ← fromLeft_apply, ← fromRight_apply, ← rowScale_apply, ← bcastRow_apply (rowScale (BitVec.ofNat 32 T.val) i.val) o, ← bcastCol_apply b o j]
  rfl

/-- A tile's own scaled row. -/
theorem midRow_apply (cf : FVec Ideal S96x4 .f32) (x : FVec Ideal S128x512 .f32) (T : Fin 4) (i : Fin 64)
    (o : Fin 96) (j : Fin 256) :
    midRow cf x (BitVec.ofNat 32 T.val) i.val i.isLt (ix2 o j)
      = feats splits128 cf x (2 * i.val) (by omega) (ix2 o j) * ((scale (64 * T.val + i.val) j.val : ℝ) : EReal) := by
  unfold midRow
  rw [← rowScale_apply, ← bcastRow_apply (rowScale (BitVec.ofNat 32 T.val) i.val) o]
  rfl

/-- A neighbouring tile's scaled row. -/
theorem haloRow_apply (cf : FVec Ideal S96x4 .f32) (x : FVec Ideal S2x512 .f32) (mask : EReal) (o : Fin 96) (j : Fin 256) :
    haloRow cf x mask (ix2 o j)
      = feats splits2 cf x 0 (by omega) (ix2 o j) * ((((√(3 + sides j.val))⁻¹ : ℝ) : EReal) * mask) := by
  unfold haloRow
  rw [← innerScale_apply]
  exact congrArg (_ * ·) (bcastRow_apply _ o j)

end Cert.KernelIdeal.Rows
end
-- ==== Proof.Block.lean ====
/- What one grid point leaves in its output block, as a function of the image's pixels, the coefficients and the bias. -/
module

public import proofs.«01_k».proof.Proof.Stores
public import proofs.«01_k».proof.Proof.StencilValues

@[expose] public section

noncomputable section

namespace Cert.KernelIdeal.Rows

open Idealize.ShloMosaic Idealize.ShloMosaic.ValueIdx
open Cert.KernelIdeal.Gen

/-! ## The mathematics of the kernel -/

section Math
variable (cf : Fin 96 → Fin 4 → EReal) (img : Nat → Nat → EReal)

/-- The transformed feature `o` of patch `(I, j)`: the coefficients on the patch's four pixels. -/
def feat (o : Fin 96) (I j : Nat) : EReal := ∑ k : Fin 4, cf o k * img (2 * I + k.val / 2) (2 * j + k.val % 2)

/-- The feature over the root of its patch's degree. -/
def scaled (o : Fin 96) (I j : Nat) : EReal := feat cf img o I j * ((scale I j : ℝ) : EReal)

/-- The patch's own scaled feature and its neighbours', in the order the kernel adds them, scaled again. -/
def stencil (o : Fin 96) (I j : Nat) : EReal :=
  (((scaled cf img o I j + if 0 < I then scaled cf img o (I - 1) j else 0)
    + ((if I < 255 then scaled cf img o (I + 1) j else 0) + if 0 < j then scaled cf img o I (j - 1) else 0))
    + if j < 255 then scaled cf img o I (j + 1) else 0) * ((scale I j : ℝ) : EReal)
end Math

/-! ## The loads are the blocks -/

/-- A load of a whole block gives the block. -/
theorem load_eq {F : FTy → Type} [FloatOps F] {s : Shape} (a : Memref sig .tc .vmem s .f32) (ha : a.IsWhole)
    (off : Fin s.rank → Nat) (h : ∀ b, off b + s.size b ≤ s.size b) (x : Vec F s .f32) : load a ha off h x = x := by
  unfold load
  rw [View.readAt_eq_ld, ha.read_unread]
  exact View.ld_unit_zero (funext fun b => by have := h b; omega) h x

/-- The middle block's rows without their unit axis. -/
theorem strip_apply (x : FVec Ideal S1x128x512 .f32) (r : Fin 128) (c : Fin 512) :
    strip x (ix2 r c) = x (ix3 (0 : Fin 1) r c) :=
  shapeCast_apply (s := S1x128x512) x _ _ _ (by
    rw [Shape.rowMajor_val_two, Shape.rowMajor_val_three]
    show (0 * 128 + r.val) * 512 + c.val = r.val * 512 + c.val
    omega)

/-- A halo block's two rows without their unit axes. -/
theorem halo_apply (x : FVec Ideal S1x1x2x512 .f32) (r : Fin 2) (c : Fin 512) :
    halo x (ix2 r c) = x (ix4 (0 : Fin 1) (0 : Fin 1) r c) :=
  shapeCast_apply (s := S1x1x2x512) x _ _ _ (by
    rw [Shape.rowMajor_val_two, Shape.rowMajor_val_four]
    show ((0 * 1 + 0) * 2 + r.val) * 512 + c.val = r.val * 512 + c.val
    omega)

/-- The bias block is used as loaded. -/
theorem biasCol_eq (b : FVec Ideal S96x1 .f32) : biasCol b = b := shapeCast_self _ _

/-! ## The rows in the image's terms -/

section
variable (cfv : FVec Ideal S96x4 .f32) (cf : Fin 96 → Fin 4 → EReal) (hcf : ∀ o k, cfv (ix2 o k) = cf o k)
  (img : Nat → Nat → EReal) (T : Fin 4)
  (x0 : FVec Ideal S1x1x2x512 .f32) (x1 : FVec Ideal S1x128x512 .f32) (x2 : FVec Ideal S1x1x2x512 .f32)
  (h0 : ∀ r c, x0 (ix4 (0 : Fin 1) (0 : Fin 1) r c) = img (2 * (64 * T.val - 1) + r.val) c.val)
  (h1 : ∀ r c, x1 (ix3 (0 : Fin 1) r c) = img (128 * T.val + r.val) c.val)
  (h2 : ∀ r c, x2 (ix4 (0 : Fin 1) (0 : Fin 1) r c) = img (2 * min (64 * T.val + 64) 255 + r.val) c.val)

include hcf h1 in
/-- A middle patch row times the coefficients: the features of that row of the image. -/
theorem feats_mid (i : Fin 64) (o : Fin 96) (j : Fin 256) :
    feats splits128 cfv (strip x1) (2 * i.val) (by omega) (ix2 o j) = feat cf img o (64 * T.val + i.val) j.val := by
  rw [feats_apply]
  refine Finset.sum_congr rfl fun k _ => ?_
  rw [hcf, strip_apply, h1]
  congr 2
  show 128 * T.val + (2 * i.val + k.val / 2) = 2 * (64 * T.val + i.val) + k.val / 2
  omega

include hcf in
/-- A halo patch row times the coefficients: the features of that row of the image. -/
theorem feats_halo (x : FVec Ideal S1x1x2x512 .f32) (I : Nat)
    (h : ∀ r c, x (ix4 (0 : Fin 1) (0 : Fin 1) r c) = img (2 * I + r.val) c.val) (o : Fin 96) (j : Fin 256) :
    feats splits2 cfv (halo x) 0 (by omega) (ix2 o j) = feat cf img o I j.val := by
  rw [feats_apply]
  refine Finset.sum_congr rfl fun k _ => ?_
  rw [hcf, halo_apply, h]
  congr 2
  show 2 * I + (0 + k.val / 2) = 2 * I + k.val / 2
  omega

include hcf h0 h1 h2 in
/-- The scaled patch rows around the tile are those of the image, zero outside it. -/
theorem rowAt_apply (p : Nat) (hp : p ≤ 65) (o : Fin 96) (j : Fin 256) :
    rowAt cfv (halo x0) (strip x1) (halo x2) (BitVec.ofNat 32 T.val) p (ix2 o j)
      = if 1 ≤ 64 * T.val + p ∧ 64 * T.val + p ≤ 256 then scaled cf img o (64 * T.val + p - 1) j.val else 0 := by
  have hT := T.isLt
  match p, hp with
  | 0, _ =>
    show haloRow cfv (halo x0) (aboveMask (BitVec.ofNat 32 T.val)) (ix2 o j) = _
    rw [aboveMask_eq, haloRow_apply, feats_halo cfv cf hcf img x0 _ h0]
    by_cases hT0 : 0 < T.val
    · rw [if_pos hT0, if_pos ⟨by omega, by omega⟩]
      unfold scaled scale
      rw [ends_inner (by omega) (by omega), Nat.add_zero, EReal.coe_one, mul_one]
      norm_num
    · rw [if_neg hT0, if_neg (by omega), EReal.coe_zero, mul_zero, mul_zero]
  | k + 1, hk =>
    show (if h : k < 64 then midRow cfv (strip x1) (BitVec.ofNat 32 T.val) k h
      else haloRow cfv (halo x2) (belowMask (BitVec.ofNat 32 T.val))) (ix2 o j) = _
    by_cases h : k < 64
    · rw [dif_pos h, if_pos ⟨by omega, by omega⟩]
      refine (midRow_apply cfv (strip x1) T ⟨k, h⟩ o j).trans ?_
      rw [feats_mid cfv cf hcf img T x1 h1 ⟨k, h⟩ o j]
      rfl
    · obtain rfl : k = 64 := by omega
      rw [dif_neg h, belowMask_eq, haloRow_apply, feats_halo cfv cf hcf img x2 _ h2]
      by_cases hT3 : T.val < 3
      · rw [if_pos hT3, if_pos ⟨by omega, by omega⟩, Nat.min_eq_left (by omega)]
        unfold scaled scale
        rw [show 64 * T.val + (64 + 1) - 1 = 64 * T.val + 64 by omega, ends_inner (by omega) (by omega), EReal.coe_one, mul_one]
        norm_num
      · rw [if_neg hT3, if_neg (by omega), EReal.coe_zero, mul_zero, mul_zero]

include hcf h0 h1 h2 in
/-- What a stencil tile stores is the stencil of the image's patches, plus the bias. -/
theorem stencilRow_eq (b : FVec Ideal S96x1 .f32) (i : Fin 64) (z : Fin 1) (o : Fin 96) (j : Fin 256) :
    stencilRow b (rowAt cfv (halo x0) (strip x1) (halo x2) (BitVec.ofNat 32 T.val)) (BitVec.ofNat 32 T.val) i.val (ix3 z o j)
      = stencil cf img o (64 * T.val + i.val) j.val + b (ix2 o (0 : Fin 1)) := by
  have hT := T.isLt
  have hi := i.isLt
  have R := rowAt_apply cfv cf hcf img T x0 x1 x2 h0 h1 h2
  rw [stencilRow_apply, R (i.val + 1) (by omega), R i.val (by omega), R (i.val + 2) (by omega)]
  unfold stencil
  congr 2
  rw [if_pos (by omega), show 64 * T.val + (i.val + 1) - 1 = 64 * T.val + i.val by omega,
    show 64 * T.val + (i.val + 2) - 1 = 64 * T.val + i.val + 1 by omega]
  congr 1
  · congr 1
    · congr 1
      by_cases h : 0 < 64 * T.val + i.val
      · rw [if_pos ⟨h, by omega⟩, if_pos h]
      · rw [if_neg (by omega), if_neg h]
    · congr 1
      · by_cases h : 64 * T.val + i.val < 255
        · rw [if_pos ⟨by omega, by omega⟩, if_pos h]
        · rw [if_neg (by omega), if_neg h]
      · by_cases h : 0 < j.val
        · rw [dif_pos h, if_pos h, R _ (by omega), if_pos (by omega)]
          congr 1
        · rw [dif_neg h, if_neg h]
  · by_cases h : j.val < 255
    · rw [dif_pos h, if_pos h, R _ (by omega), if_pos (by omega)]
      congr 1
    · rw [dif_neg h, if_neg h]
end

/-! ## The blocks -/

section
variable (c : Dev nD) (i : grid0.Coords)
  (arg2 : Memref sig .tc .vmem S1x1x2x512 .f32) (harg2 : arg2.IsWhole)
  (arg3 : Memref sig .tc .vmem S1x128x512 .f32) (harg3 : arg3.IsWhole)
  (arg4 : Memref sig .tc .vmem S1x1x2x512 .f32) (harg4 : arg4.IsWhole)
  (arg5 : Memref sig .tc .vmem S96x4 .f32) (harg5 : arg5.IsWhole)
  (arg6 : Memref sig .tc .vmem S96x96 .f32) (harg6 : arg6.IsWhole)
  (arg7 : Memref sig .tc .vmem S96x1 .f32) (harg7 : arg7.IsWhole)
  (arg8 : Memref sig .tc .vmem S1x96x16384 .f32) (harg8 : arg8.IsWhole)
  (x0 : Vec Ideal S1x1x2x512 .f32) (x1 : Vec Ideal S1x128x512 .f32) (x2 : Vec Ideal S1x1x2x512 .f32)
  (x3 : Vec Ideal S96x4 .f32) (x4 : Vec Ideal S96x96 .f32) (x5 : Vec Ideal S96x1 .f32)
  (cf : Fin 96 → Fin 4 → EReal) (hcf : ∀ o k, ∑ e : Fin 96, x4 (ix2 e o) * x3 (ix2 e k) = cf o k)
  (img : Nat → Nat → EReal) (T : Fin 4) (hT : (i 1).val = T.val)
  (h0 : ∀ r c, x0 (ix4 (0 : Fin 1) (0 : Fin 1) r c) = img (2 * (64 * T.val - 1) + r.val) c.val)
  (h1 : ∀ r c, x1 (ix3 (0 : Fin 1) r c) = img (128 * T.val + r.val) c.val)
  (h2 : ∀ r c, x2 (ix4 (0 : Fin 1) (0 : Fin 1) r c) = img (2 * min (64 * T.val + 64) 255 + r.val) c.val)

/-- Stores that agree with one function of the block's index leave that function. -/
theorem canon_pieces (f : (i : Nat) → i < 64 → FVec Ideal S1x96x256 .f32) (g : Fin 96 → Nat → Nat → EReal) (I₀ : Nat)
    (hf : ∀ (i : Fin 64) (z : Fin 1) (o : Fin 96) (j : Fin 256), f i.val i.isLt (ix3 z o j) = g o (I₀ + i.val) j.val)
    (hcov : ∀ y : S1x96x16384.Idx, ∃ p ∈ pieces f 64 (Nat.le_refl 64), y ∈ p.1.set) (z : Fin 1) (o : Fin 96) (n : Fin 16384) :
    View.canon (pieces f 64 (Nat.le_refl 64)) (ix3 z o n) = g o (I₀ + n.val / 256) (n.val % 256) := by
  refine View.canon_apply_of_pieces (fun y : S1x96x16384.Idx => g (y 1) (I₀ + (y 2).val / 256) ((y 2).val % 256)) _ ?_ _ (hcov _)
  intro p hp
  obtain ⟨i, hi, rfl⟩ := mem_pieces f 64 _ p hp
  intro x
  obtain ⟨z, o, j, rfl⟩ : ∃ (z : Fin 1) (o : Fin 96) (j : Fin 256), x = ix3 z o j := ⟨x 0, x 1, x 2, eq_ix3 x⟩
  refine (hf ⟨i, hi⟩ z o j).trans ?_
  have e1 : ((Rect.unit (s := S1x96x16384) ![0, 0, 256 * i] S1x96x256.size (rowInb hi)).emb (ix3 z o j)) 1 = o :=
    Fin.ext (by show 0 + 1 * o.val = o.val; omega)
  have e2 : (((Rect.unit (s := S1x96x16384) ![0, 0, 256 * i] S1x96x256.size (rowInb hi)).emb (ix3 z o j)) 2).val = 256 * i + j.val := by
    show 256 * i + 1 * j.val = _; omega
  show _ = g _ (I₀ + _ / 256) (_ % 256)
  rw [e1, e2]
  congr 1
  · congr 1
    have := j.isLt
    show i = (256 * i + j.val) / 256
    omega
  · have := j.isLt; omega

include hcf h1 in
/-- A plain tile's block. -/
theorem out_plain (hc0 : cond0_0 i) (hc1 : ¬cond0_1 i) (z : Fin 1) (o : Fin 96) (n : Fin 16384) :
    out0_B_6 c i arg2 harg2 arg3 harg3 arg4 harg4 arg5 harg5 arg6 harg6 arg7 harg7 arg8 harg8 hc0 hc1 x0 x1 x2 x3 x4 x5 (ix3 z o n)
      = feat cf img o (64 * T.val + n.val / 256) (n.val % 256) + x5 (ix2 o (0 : Fin 1)) := by
  have hcov := cover0_B_6 c i arg2 harg2 arg3 harg3 arg4 harg4 arg5 harg5 arg6 harg6 arg7 harg7 arg8 harg8 hc0 hc1 x0 x1 x2 x3 x4 x5
  unfold out0_B_6
  rw [View.read_writes_eq_canon _ _ _ hcov]
  rw [stores_plain] at hcov ⊢
  simp only [load_eq] at hcov ⊢
  refine canon_pieces _ (fun o I j => feat cf img o I j + x5 (ix2 o (0 : Fin 1))) (64 * T.val) ?_ hcov z o n
  intro i z o j
  refine (plainRow_apply _ _ _ _ i.isLt z o j).trans ?_
  rw [feats_mid _ cf (fun o k => (coeffs_apply x4 x3 o k).trans (hcf o k)) img T x1 h1 i o j, biasCol_eq]

include hcf hT h0 h1 h2 in
/-- A stencil tile's block. -/
theorem out_stencil (hc0 : ¬cond0_0 i) (hc1 : cond0_1 i) (z : Fin 1) (o : Fin 96) (n : Fin 16384) :
    out0_A_6 c i arg2 harg2 arg3 harg3 arg4 harg4 arg5 harg5 arg6 harg6 arg7 harg7 arg8 harg8 hc0 hc1 x0 x1 x2 x3 x4 x5 (ix3 z o n)
      = stencil cf img o (64 * T.val + n.val / 256) (n.val % 256) + x5 (ix2 o (0 : Fin 1)) := by
  have hcov := cover0_A_6 c i arg2 harg2 arg3 harg3 arg4 harg4 arg5 harg5 arg6 harg6 arg7 harg7 arg8 harg8 hc0 hc1 x0 x1 x2 x3 x4 x5
  unfold out0_A_6
  rw [View.read_writes_eq_canon _ _ _ hcov]
  rw [stores_stencil] at hcov ⊢
  simp only [load_eq, hT] at hcov ⊢
  refine canon_pieces _ (fun o I j => stencil cf img o I j + x5 (ix2 o (0 : Fin 1))) (64 * T.val) ?_ hcov z o n
  intro i z o j
  refine (stencilRow_eq _ cf (fun o k => (coeffs_apply x4 x3 o k).trans (hcf o k)) img T x0 x1 x2 h0 h1 h2 _ i z o j).trans ?_
  rw [biasCol_eq]
end

end Cert.KernelIdeal.Rows
end
-- ==== Proof.KernelArray.lean ====
/- What the whole kernel leaves in its result array, as a function of its argument arrays. -/
module

public import proofs.«01_k».proof.Proof.Block
public import Idealize.ShloMosaic.Lib.Pipeline.ValueKit.Geometry
public import Idealize.ShloMosaic.Lib.StableHlo.Run

@[expose] public section

noncomputable section

namespace Cert.KernelIdeal.Rows

open Idealize.ShloMosaic Idealize.ShloMosaic.TcCoe Idealize.ShloMosaic.ValueIdx Idealize.ShloMosaic.StableHlo
open Idealize.SL.Sem
open Cert.KernelIdeal.Gen

/-! ## The kernel's result as a function of the arguments -/

section Spec
variable (x : FVec Ideal S4x1x512x512 .f32) (w : FVec Ideal S96x1x2x2 .f32) (g : FVec Ideal S96x96 .f32) (b : FVec Ideal S96 .f32)

/-- Image `B`'s pixels at natural coordinates. -/
def image (B : Fin 4) (r c : Nat) : EReal := if h : r < 512 ∧ c < 512 then x (ix4 B (0 : Fin 1) ⟨r, h.1⟩ ⟨c, h.2⟩) else 0

/-- The coefficient of tap `k` in transformed feature `o`. -/
def coef (o : Fin 96) (k : Fin 4) : EReal :=
  ∑ e : Fin 96, g (ix2 e o) * w (ix4 e (0 : Fin 1) (⟨k.val / 2, by omega⟩ : Fin 2) (⟨k.val % 2, by omega⟩ : Fin 2))

/-- Feature `o` at patch `n` of image `B`: image 0 aggregates over the grid, the others have only self-loops. -/
def nodeValue (B : Fin 4) (o : Fin 96) (n : Nat) : EReal :=
  (if B.val = 0 then stencil (coef w g) (image x B) o (n / 256) (n % 256)
    else feat (coef w g) (image x B) o (n / 256) (n % 256)) + b (ix1 o)

/-- The region's array, features before patches. -/
def arrayOf : FVec Ideal S4x96x65536 .f32 := fun i => nodeValue x w g b (i 0) (i 1) (i 2).val
end Spec

variable (m : (ℓ : Loc nD τ sig) → Buf (Elt Ideal) ℓ) (c : Dev nD)

/-! ## The region's operands -/

/-- The four arguments at a device: image, patch weight, node transform, bias. -/
abbrev argX : FVec Ideal S4x1x512x512 .f32 := m ((c : Thread nD τ).loc main_arg0)
abbrev argW : FVec Ideal S96x1x2x2 .f32 := m ((c : Thread nD τ).loc main_arg1)
abbrev argG : FVec Ideal S96x96 .f32 := m ((c : Thread nD τ).loc main_arg2)
abbrev argB : FVec Ideal S96 .f32 := m ((c : Thread nD τ).loc main_arg3)

/-- The image with its unit axis dropped. -/
theorem V_v0 : V m c main_v0 = shapeCast S4x512x512 (argX m c) shapeCasts_S4x1x512x512_S4x512x512 := by
  show StableHlo.after (List.flatten [hostOps0]) (fun b => m (c, b)) _ = _
  simp only [List.flatten_cons, List.flatten_nil, List.append_nil]
  after_results
  rfl

/-- The image as patch rows of two pixel rows. -/
theorem V_v1 : V m c main_v1 = shapeCast S4x256x2x512 (argX m c) shapeCasts_S4x1x512x512_S4x256x2x512 := by
  show StableHlo.after (List.flatten [hostOps0]) (fun b => m (c, b)) _ = _
  simp only [List.flatten_cons, List.flatten_nil, List.append_nil]
  after_results
  rfl

/-- The patch weight as four taps a feature. -/
theorem V_v2 : V m c main_v2 = shapeCast S96x4 (argW m c) shapeCasts_S96x1x2x2_S96x4 := by
  show StableHlo.after (List.flatten [hostOps0]) (fun b => m (c, b)) _ = _
  simp only [List.flatten_cons, List.flatten_nil, List.append_nil]
  after_results
  rfl

/-- The bias as a column. -/
theorem V_v3 : V m c main_v3 = shapeCast S96x1 (argB m c) shapeCasts_S96_S96x1 := by
  show StableHlo.after (List.flatten [hostOps0]) (fun b => m (c, b)) _ = _
  simp only [List.flatten_cons, List.flatten_nil, List.append_nil]
  after_results
  rfl

/-! ## The blocks at coordinates -/

/-- Which block each window shows at a grid point: the patch row above the tile, clamped. -/
theorem index0 : ∀ t : Fin cfg0.N, win0_0.index t = ![t.val / 4, 64 * (t.val % 4) - 1, 0, 0] :=
  (by decide +kernel : ∀ t : Fin grid0.N, _)
/-- The strip of the tile. -/
theorem index1 : ∀ t : Fin cfg0.N, win0_1.index t = ![t.val / 4, t.val % 4, 0] :=
  (by decide +kernel : ∀ t : Fin grid0.N, _)
/-- The patch row below the tile, clamped. -/
theorem index2 : ∀ t : Fin cfg0.N, win0_2.index t = ![t.val / 4, min (64 * (t.val % 4) + 64) 255, 0, 0] :=
  (by decide +kernel : ∀ t : Fin grid0.N, _)
/-- The whole patch weight. -/
theorem index3 : ∀ t : Fin cfg0.N, win0_3.index t = ![0, 0] := (by decide +kernel : ∀ t : Fin grid0.N, _)
/-- The whole node transform. -/
theorem index4 : ∀ t : Fin cfg0.N, win0_4.index t = ![0, 0] := (by decide +kernel : ∀ t : Fin grid0.N, _)
/-- The whole bias. -/
theorem index5 : ∀ t : Fin cfg0.N, win0_5.index t = ![0, 0] := (by decide +kernel : ∀ t : Fin grid0.N, _)
/-- The tile of the image's output. -/
theorem index6 : ∀ t : Fin cfg0.N, win0_6.index t = ![t.val / 4, 0, t.val % 4] :=
  (by decide +kernel : ∀ t : Fin grid0.N, _)
/-- The second grid coordinate is the tile. -/
theorem coord1 : ∀ t : Fin cfg0.N, (grid0.coords t 1).val = t.val % 4 := (by decide +kernel : ∀ t : Fin grid0.N, _)

/-- The image and the tile of a grid point. -/
abbrev imgOf (t : Fin cfg0.N) : Fin 4 := ⟨t.val / 4, by have := lt_of_lt_of_eq t.isLt (show cfg0.N = 16 from N_0); omega⟩
abbrev tileOf (t : Fin cfg0.N) : Fin 4 := ⟨t.val % 4, by omega⟩

/-- A pixel inside the image is read from it. -/
theorem image_of_lt {r k : Nat} (x : FVec Ideal S4x1x512x512 .f32) (B : Fin 4) (hr : r < 512) (hk : k < 512) :
    image x B r k = x (ix4 B (0 : Fin 1) ⟨r, hr⟩ ⟨k, hk⟩) := dif_pos ⟨hr, hk⟩

/-- A patch row of an image, as the halo windows see it. -/
theorem pairRow_apply (x : FVec Ideal S4x1x512x512 .f32) (B : Fin 4) (I : Fin 256) (r : Fin 2) (k : Fin 512) :
    shapeCast S4x256x2x512 x shapeCasts_S4x1x512x512_S4x256x2x512 (ix4 B I r k) = image x B (2 * I.val + r.val) k.val := by
  rw [image_of_lt x B (by omega) k.isLt]
  refine shapeCast_apply x _ _ _ ?_
  rw [Shape.rowMajor_val_four, Shape.rowMajor_val_four]
  show ((B.val * 1 + 0) * 512 + (2 * I.val + r.val)) * 512 + k.val = ((B.val * 256 + I.val) * 2 + r.val) * 512 + k.val
  omega

/-- A row of an image, as the middle window sees it. -/
theorem pixelRow_apply (x : FVec Ideal S4x1x512x512 .f32) (B : Fin 4) (r : Fin 512) (k : Fin 512) :
    shapeCast S4x512x512 x shapeCasts_S4x1x512x512_S4x512x512 (ix3 B r k) = image x B r.val k.val := by
  rw [image_of_lt x B r.isLt k.isLt]
  refine shapeCast_apply x _ _ _ ?_
  rw [Shape.rowMajor_val_four, Shape.rowMajor_val_three]
  show ((B.val * 1 + 0) * 512 + r.val) * 512 + k.val = (B.val * 512 + r.val) * 512 + k.val
  omega

/-- The block above the tile at a coordinate. -/
theorem block0 (t : Fin cfg0.N) (r : Fin 2) (k : Fin 512) :
    iblk m c 0 t (ix4 (0 : Fin 1) (0 : Fin 1) r k) = image (argX m c) (imgOf t) (2 * (64 * (tileOf t).val - 1) + r.val) k.val := by
  show V m c main_v1 _ = _
  have he : ((cfg0.win 0).blk t).view.emb (ix4 (0 : Fin 1) (0 : Fin 1) r k)
      = (ix4 (imgOf t) (⟨64 * (t.val % 4) - 1, by omega⟩ : Fin 256) r k : S4x256x2x512.Idx) := by blk_ext [index0]
  rw [V_v1, he, pairRow_apply]

/-- The strip of the tile at a coordinate. -/
theorem block1 (t : Fin cfg0.N) (r : Fin 128) (k : Fin 512) :
    iblk m c 1 t (ix3 (0 : Fin 1) r k) = image (argX m c) (imgOf t) (128 * (tileOf t).val + r.val) k.val := by
  show V m c main_v0 _ = _
  have he : ((cfg0.win 1).blk t).view.emb (ix3 (0 : Fin 1) r k)
      = (ix3 (imgOf t) (⟨128 * (t.val % 4) + r.val, by omega⟩ : Fin 512) k : S4x512x512.Idx) := by
    blk_ext [index1]
    show t.val % 4 * 128 + r.val = _
    omega
  rw [V_v0, he, pixelRow_apply]

/-- The block below the tile at a coordinate. -/
theorem block2 (t : Fin cfg0.N) (r : Fin 2) (k : Fin 512) :
    iblk m c 2 t (ix4 (0 : Fin 1) (0 : Fin 1) r k) = image (argX m c) (imgOf t) (2 * min (64 * (tileOf t).val + 64) 255 + r.val) k.val := by
  show V m c main_v1 _ = _
  have he : ((cfg0.win 2).blk t).view.emb (ix4 (0 : Fin 1) (0 : Fin 1) r k)
      = (ix4 (imgOf t) (⟨min (64 * (t.val % 4) + 64) 255, by omega⟩ : Fin 256) r k : S4x256x2x512.Idx) := by blk_ext [index2]
  rw [V_v1, he, pairRow_apply]

/-- The patch weight block at a coordinate. -/
theorem block3 (t : Fin cfg0.N) (e : Fin 96) (k : Fin 4) :
    iblk m c 3 t (ix2 e k) = argW m c (ix4 e (0 : Fin 1) (⟨k.val / 2, by omega⟩ : Fin 2) (⟨k.val % 2, by omega⟩ : Fin 2)) := by
  show V m c main_v2 _ = _
  have he : ((cfg0.win 3).blk t).view.emb (ix2 e k) = (ix2 e k : S96x4.Idx) := by blk_ext [index3]
  rw [V_v2, he]
  refine shapeCast_apply _ _ _ _ ?_
  rw [Shape.rowMajor_val_four, Shape.rowMajor_val_two]
  show ((e.val * 1 + 0) * 2 + k.val / 2) * 2 + k.val % 2 = e.val * 4 + k.val
  omega

/-- The node transform block at a coordinate. -/
theorem block4 (t : Fin cfg0.N) (e o : Fin 96) : iblk m c 4 t (ix2 e o) = argG m c (ix2 e o) := by
  show V m c main_arg2 _ = _
  have he : ((cfg0.win 4).blk t).view.emb (ix2 e o) = (ix2 e o : S96x96.Idx) := by blk_ext [index4]
  rw [V_main_arg2, he]

/-- The bias block at a coordinate. -/
theorem block5 (t : Fin cfg0.N) (o : Fin 96) : iblk m c 5 t (ix2 o (0 : Fin 1)) = argB m c (ix1 o) := by
  show V m c main_v3 _ = _
  have he : ((cfg0.win 5).blk t).view.emb (ix2 o (0 : Fin 1)) = (ix2 o (0 : Fin 1) : S96x1.Idx) := by blk_ext [index5]
  rw [V_v3, he]
  refine shapeCast_apply _ _ _ _ ?_
  rw [Shape.rowMajor_val_one, Shape.rowMajor_val_two]
  show o.val = o.val * 1 + 0
  omega

/-! ## The array and the transposed result -/

/-- The product of the two weight blocks is the tap coefficients. -/
theorem coef_of (w : FVec Ideal S96x1x2x2 .f32) (g : FVec Ideal S96x96 .f32) (x3 : Vec Ideal S96x4 .f32) (x4 : Vec Ideal S96x96 .f32)
    (h3 : ∀ e k, x3 (ix2 e k) = w (ix4 e (0 : Fin 1) (⟨k.val / 2, by omega⟩ : Fin 2) (⟨k.val % 2, by omega⟩ : Fin 2)))
    (h4 : ∀ e o, x4 (ix2 e o) = g (ix2 e o)) (o : Fin 96) (k : Fin 4) :
    ∑ e : Fin 96, x4 (ix2 e o) * x3 (ix2 e k) = coef w g o k :=
  Finset.sum_congr rfl fun e _ => by rw [h3, h4]

/-- What the body leaves in the output block at a grid point. -/
theorem block_out (t : Fin cfg0.N) (z : Fin 1) (o : Fin 96) (n : Fin 16384) :
    outsAt0 m c t.val t.isLt (ix3 z o n)
      = nodeValue (argX m c) (argW m c) (argG m c) (argB m c) (imgOf t) o (16384 * (tileOf t).val + n.val) := by
  have hcf := coef_of (argW m c) (argG m c) (iblk m c 3 t) (iblk m c 4 t) (block3 m c t) (block4 m c t)
  have hn := n.isLt
  have hI : (16384 * (tileOf t).val + n.val) / 256 = 64 * (tileOf t).val + n.val / 256 := by omega
  have hJ : (16384 * (tileOf t).val + n.val) % 256 = n.val % 256 := by omega
  unfold nodeValue
  rw [hI, hJ]
  by_cases h : 4 ≤ t.val
  · rw [outsAt0_B m c t h (by omega), if_neg (by show ¬ t.val / 4 = 0; omega)]
    refine (out_plain _ _ _ _ _ _ _ _ _ _ _ _ _ _ _ _ _ _ _ _ _ _ (coef (argW m c) (argG m c)) hcf (image (argX m c) (imgOf t)) (tileOf t) (block1 m c t) _ _ z o n).trans ?_
    rw [block5]
  · rw [outsAt0_A m c t h (by omega), if_pos (by show t.val / 4 = 0; omega)]
    refine (out_stencil _ _ _ _ _ _ _ _ _ _ _ _ _ _ _ _ _ _ _ _ _ _ (coef (argW m c) (argG m c)) hcf (image (argX m c) (imgOf t)) (tileOf t) (coord1 t) (block0 m c t) (block1 m c t) (block2 m c t) _ _ z o n).trans ?_
    rw [block5]

/-- The region's array after the run. -/
theorem final_v4 : (dats m 0 c).arrAt 6 cfg0.N = arrayOf (argX m c) (argW m c) (argG m c) (argB m c) := by
  refine (dats m 0 c).arrAt_eq_of_covers 6 _ (by decide +kernel) fun t hf y => ?_
  obtain ⟨z, o, n, rfl⟩ : ∃ (z : Fin 1) (o : Fin 96) (n : Fin 16384), y = ix3 z o n := ⟨y 0, y 1, y 2, eq_ix3 y⟩
  blk_simp
  rw [after0_6]
  refine (block_out m c t z o n).trans ?_
  have he : ((cfg0.win 6).blk t).view.emb (ix3 z o n)
      = (ix3 (imgOf t) o (⟨16384 * (t.val % 4) + n.val, by omega⟩ : Fin 65536) : S4x96x65536.Idx) := by
    blk_ext [index6]
    show t.val % 4 * 16384 + n.val = _
    omega
  rw [he]
  rfl

/-- The result: the region's array with patches before features. -/
theorem result_apply (B : Fin 4) (n : Fin 65536) (o : Fin 96) :
    Pipeline.afterTail₀ cfgs (dats m) 0 (V0 m) [hostOps1] c main_v5 (ix3 B n o)
      = nodeValue (argX m c) (argW m c) (argG m c) (argB m c) B o n.val := by
  have h : Pipeline.afterTail₀ cfgs (dats m) 0 (V0 m) [hostOps1] c main_v5
      = transpose S4x65536x96 [0, 2, 1] (arrayOf (argX m c) (argW m c) (argG m c) (argB m c)) transposes_S4x96x65536_S4x65536x96_0_2_1 := by
    unfold Pipeline.afterTail₀
    simp only [List.flatten_cons, List.flatten_nil, List.append_nil]
    after_results
    have e := (dats m 0 c).withArrays_arrAt launch₀0.sharedIn (V0 m c) (A_eq m c) 6
    rw [final_v4] at e
    exact congrArg (fun a => transpose S4x65536x96 [0, 2, 1] a transposes_S4x96x65536_S4x65536x96_0_2_1) e
  rw [h]
  refine (transpose_apply [0, 2, 1] _ _ _ (ix3 B o n) ?_).trans rfl
  intro b
  fin_cases b <;> rfl

end Cert.KernelIdeal.Rows
end
-- ==== Proof.RefValue.lean ====
/- The reference's result at an index: the messages, the degrees and the sum over the edges arriving at a node. -/
module

public import proofs.«01_k».proof.Proof.RefEdges
public import proofs.«01_k».proof.Proof.KernelArray
public import Idealize.ShloMosaic.Lib.ValueIdxRank6

@[expose] public section

noncomputable section

namespace Cert.ReferenceIdeal.Graph

open Idealize.ShloMosaic Idealize.ShloMosaic.ValueIdx
open Cert.ReferenceIdeal Cert.ReferenceIdeal.Gen Cert.ReferenceIdeal.Read
open Cert.KernelIdeal.Rows (image image_of_lt ends sides scale ends_nonneg sides_nonneg)

section Messages
variable (x : FVec Ideal S4x1x512x512 .f32) (w : FVec Ideal S96x1x2x2 .f32) (g : FVec Ideal S96x96 .f32) (b : FVec Ideal S96 .f32)

/-- The tap of the patch weight at (a, c) = (k / 2, k % 2). -/
abbrev tap (e : Fin 96) (k : Fin 4) : EReal :=
  w (ix4 e (0 : Fin 1) (⟨k.val / 2, by omega⟩ : Fin 2) (⟨k.val % 2, by omega⟩ : Fin 2))

/-- Pixel `k` of patch `n` in image `B`. -/
abbrev pixel (B : Fin 4) (n : Nat) (k : Fin 4) : EReal := image x B (2 * (n / 256) + k.val / 2) (2 * (n % 256) + k.val % 2)

/-- The message of patch `n` of image `B`: its patch features through the node transform. -/
def msg (B : Fin 4) (n : Nat) (o : Fin 96) : EReal := ∑ e : Fin 96, (∑ k : Fin 4, pixel x B n k * tap w e k) * g (ix2 e o)

/-- The message of a node. -/
def msgAt (s : Nat) (o : Fin 96) : EReal := msg x w g ⟨s / 65536 % 4, by omega⟩ (s % 65536) o

/-- The degree of a node, and one over its root. -/
def degree (N : Nat) : ℝ := if N < 65536 then 1 + ends (N / 256) + sides (N % 256) else 1
def dinv (N : Nat) : ℝ := if N < 65536 then scale (N / 256) (N % 256) else 1

/-- A patch is four pixels of its image. -/
theorem v2_apply (B : Fin 4) (n : Fin 65536) (k : Fin 4) : val_main_v2 (F := Ideal) x (ix3 B n k) = pixel x B n.val k := by
  have hB := B.isLt
  have hn := n.isLt
  have hk := k.isLt
  unfold val_main_v2
  rw [shapeCast_apply _ shapeCasts_S4x256x256x1x2x2_S4x65536x4 (ix3 B n k)
    (ix6 B (⟨n.val / 256, by omega⟩ : Fin 256) (⟨n.val % 256, by omega⟩ : Fin 256) (0 : Fin 1) (⟨k.val / 2, by omega⟩ : Fin 2) (⟨k.val % 2, by omega⟩ : Fin 2))
    (by
      rw [Shape.rowMajor_val_six, Shape.rowMajor_val_three]
      show ((((B.val * 256 + n.val / 256) * 256 + n.val % 256) * 1 + 0) * 2 + k.val / 2) * 2 + k.val % 2 = (B.val * 65536 + n.val) * 4 + k.val
      omega), val_main_v1_apply]
  unfold val_main_v0
  unfold pixel
  rw [image_of_lt x B (by omega) (by omega)]
  refine shapeCast_apply x shapeCasts_S4x1x512x512_S4x1x256x2x256x2 _ _ ?_
  rw [Shape.rowMajor_val_six, Shape.rowMajor_val_four]
  show ((B.val * 1 + 0) * 512 + (2 * (n.val / 256) + k.val / 2)) * 512 + (2 * (n.val % 256) + k.val % 2)
    = ((((B.val * 1 + 0) * 256 + n.val / 256) * 2 + k.val / 2) * 256 + n.val % 256) * 2 + k.val % 2
  omega

/-- The patch weight, transposed. -/
theorem v4_apply (k : Fin 4) (e : Fin 96) : val_main_v4 (F := Ideal) w (ix2 k e) = tap w e k := by
  have hk := k.isLt
  rw [val_main_v4_apply, val_main_v3_apply]
  unfold tap
  congr 1
  funext a
  apply Fin.ext
  match a with
  | ⟨0, _⟩ => show (e.val * 4 + k.val) / 4 = e.val; omega
  | ⟨1, _⟩ => rfl
  | ⟨2, _⟩ => show (e.val * 4 + k.val) / 2 % 2 = k.val / 2; omega
  | ⟨3, _⟩ => show (e.val * 4 + k.val) % 2 = k.val % 2; omega

/-- The patch features. -/
theorem v5_apply (B : Fin 4) (n : Fin 65536) (e : Fin 96) :
    val_main_v5 (F := Ideal) x w (ix3 B n e) = ∑ k : Fin 4, pixel x B n.val k * tap w e k := by
  rw [val_main_v5_apply]
  refine Finset.sum_congr rfl fun k _ => ?_
  have hl : lidx_main_v5 (ix3 B n e) k = ix3 B n k := funext fun a => match a with
    | ⟨0, _⟩ => rfl
    | ⟨1, _⟩ => rfl
    | ⟨2, _⟩ => rfl
  have hr : ridx_main_v5 (ix3 B n e) k = ix2 k e := funext fun a => match a with
    | ⟨0, _⟩ => rfl
    | ⟨1, _⟩ => rfl
  rw [hl, hr, v2_apply, v4_apply]

/-- A node's message. -/
theorem v55_apply (s : Node) (o : Fin 96) : val_main_v55 (F := Ideal) x w g (ix2 s o) = msgAt x w g s.val o := by
  have hs := s.isLt
  rw [val_main_v55_apply]
  unfold msgAt msg
  refine Finset.sum_congr rfl fun e _ => ?_
  have he := e.isLt
  have hl : idx_main_v6 (lidx_main_v55 (ix2 s o) e)
      = ix3 (⟨s.val / 65536 % 4, by omega⟩ : Fin 4) (⟨s.val % 65536, by omega⟩ : Fin 65536) e := by
    funext a
    apply Fin.ext
    match a with
    | ⟨0, _⟩ => show (s.val * 96 + e.val) / 6291456 = s.val / 65536 % 4; omega
    | ⟨1, _⟩ => show (s.val * 96 + e.val) / 96 % 65536 = s.val % 65536; omega
    | ⟨2, _⟩ => show (s.val * 96 + e.val) % 96 = e.val; omega
  have hr : ridx_main_v55 (ix2 s o) e = ix2 e o := funext fun a => match a with
    | ⟨0, _⟩ => rfl
    | ⟨1, _⟩ => rfl
  rw [val_main_v6_apply, hl, hr, v5_apply]
end Messages

/-! ## Degrees -/

/-- The word of one. -/
theorem ofBits_one : Ideal.ofBits .f32 0x3F800000#32 = (1 : EReal) := by
  simp [Ideal.ofBits, Ideal.ieee, -EReal.coe_mul]; norm_num

/-- In image 0 the neighbours are those of the grid position. -/
theorem neighbours_grid (H : Nat → EReal) {N : Nat} (h : N < 65536) :
    neighbours H N = (if N / 256 < 255 then H (N + 256) else 0) + (if 0 < N / 256 then H (N - 256) else 0)
      + (if N % 256 < 255 then H (N + 1) else 0) + (if 0 < N % 256 then H (N - 1) else 0) := by
  unfold neighbours
  exact congrArg₂ (· + ·) (congrArg₂ (· + ·) (congrArg₂ (· + ·) (if_congr (by omega) rfl rfl) (if_congr (by omega) rfl rfl))
    (if_congr (by omega) rfl rfl)) (if_congr (by omega) rfl rfl)

/-- Outside image 0 there are no neighbours. -/
theorem neighbours_other (H : Nat → EReal) {N : Nat} (h : ¬ N < 65536) : neighbours H N = 0 := by
  unfold neighbours
  rw [if_neg (by omega), if_neg (by omega), if_neg (by omega), if_neg (by omega)]
  simp

/-- Every node has a positive degree. -/
theorem degree_pos (N : Nat) : 0 < degree N := by
  unfold degree
  split
  · have := ends_nonneg (N / 256); have := sides_nonneg (N % 256); linarith
  · norm_num

/-- One for every arriving edge adds up to the degree. -/
theorem count_edges (N : Nat) : neighbours (fun _ => 1) N + 1 = ((degree N : ℝ) : EReal) := by
  unfold degree
  split_ifs with h
  · rw [neighbours_grid _ h]
    unfold ends sides
    have one : (1 : EReal) = ((1 : ℝ) : EReal) := rfl
    have zero : (0 : EReal) = ((0 : ℝ) : EReal) := rfl
    have ite_coe : ∀ (p : Prop) [Decidable p], (if p then (1 : EReal) else 0) = (((if p then 1 else 0 : ℝ)) : EReal) := fun p _ => by
      split_ifs <;> rfl
    simp only [ite_coe]
    rw [one]
    simp only [← EReal.coe_add]
    congr 1
    ring
  · rw [neighbours_other _ h, zero_add]; rfl

/-- The scattered ones are the nodes' degrees. -/
theorem v33_apply (N : Node) : val_main_v33 (F := Ideal) (ix1 N) = ((degree N.val : ℝ) : EReal) := by
  unfold val_main_v33
  rw [scatter_scalar _ _ _ dst v32_word N, ← count_edges, ← edge_sum (fun _ => 1) N, val_main_v31_apply, val_main_cst_0_apply]
  show Ideal.ofBits .f32 0x00000000#32 + _ = _
  rw [Ideal.ofBits_zero_f32, zero_add]
  refine Finset.sum_congr rfl fun e _ => if_congr Iff.rfl ?_ rfl
  rw [val_main_v30_apply, val_main_cst_apply]
  exact ofBits_one

/-- The normalisation of a node. -/
theorem v39_apply (N : Node) : val_main_v39 (F := Ideal) (ix1 N) = ((dinv N.val : ℝ) : EReal) := by
  have hp := degree_pos N.val
  have hs : 0 < √(degree N.val) := Real.sqrt_pos.mpr hp
  have e : dinv N.val = (√(degree N.val))⁻¹ := by
    unfold dinv degree scale
    split_ifs
    · rfl
    · simp
  rw [val_main_v39_apply, val_main_v35_apply, val_main_v38_apply, val_main_v36_apply, v33_apply, val_main_v34_apply, val_main_cst_1_apply,
    val_main_v37_apply, val_main_cst_2_apply]
  show Scalar.select (Ideal.cmp .ogt (degree N.val : EReal) (Ideal.ofBits .f32 0x00000000#32))
    (Ideal.div (Ideal.ofBits .f32 0x3F800000#32) (if degree N.val < 0 then ⊥ else ((√(degree N.val) : ℝ) : EReal))) _ = _
  have hc : Ideal.cmp .ogt (degree N.val : EReal) (Ideal.ofBits .f32 0x00000000#32) = 1#1 := by
    rw [Ideal.ofBits_zero_f32]
    show BitVec.ofBool (decide ((0 : EReal) < (degree N.val : EReal))) = 1#1
    rw [decide_eq_true (by exact_mod_cast hp)]
    rfl
  rw [hc, if_neg (by linarith), ofBits_one, Ideal.div_coe hs.ne', one_mul, e, one_div]
  rfl

/-! ## The result -/

section Result
variable (x : FVec Ideal S4x1x512x512 .f32) (w : FVec Ideal S96x1x2x2 .f32) (g : FVec Ideal S96x96 .f32) (b : FVec Ideal S96 .f32)

/-- What an edge carries: its start's message, scaled at both ends. -/
theorem v65_apply (e : Edge) (o : Fin 96) :
    val_main_v65 (F := Ideal) x w g (ix2 e o)
      = msgAt x w g (src e).val o * (((dinv (src e).val : ℝ) : EReal) * ((dinv (dst e).val : ℝ) : EReal)) := by
  have hi : idx_main_v63 (idx_main_v64 (ix2 e o)) = ix1 e := funext fun a => match a with
    | ⟨0, _⟩ => rfl
  rw [val_main_v65_apply, val_main_v64_apply, val_main_v63_apply, hi, val_main_v54_apply]
  have h62 : val_main_v62 (F := Ideal) x w g (ix2 e o) = msgAt x w g (src e).val o := by
    unfold val_main_v62
    rw [gather_row _ _ e o (src e) (v61_word e), v55_apply]
  have h46 : val_main_v46 (F := Ideal) (ix1 e) = ((dinv (src e).val : ℝ) : EReal) := by
    unfold val_main_v46
    rw [gather_scalar _ _ e (src e) (v45_word e), v39_apply]
  have h53 : val_main_v53 (F := Ideal) (ix1 e) = ((dinv (dst e).val : ℝ) : EReal) := by
    unfold val_main_v53
    rw [gather_scalar _ _ e (dst e) (v52_word e), v39_apply]
  rw [h62, h46, h53]
  rfl

/-- What arrives at node `N` from node `s`. -/
def carried (N : Nat) (o : Fin 96) (s : Nat) : EReal := msgAt x w g s o * (((dinv s : ℝ) : EReal) * ((dinv N : ℝ) : EReal))

/-- What the edges arriving at a node add up to. -/
theorem v68_apply (N : Node) (o : Fin 96) :
    val_main_v68 (F := Ideal) x w g (ix2 N o) = neighbours (carried x w g N.val o) N.val + carried x w g N.val o N.val := by
  unfold val_main_v68
  rw [scatter_row _ _ _ dst v67_word N o, ← edge_sum (carried x w g N.val o) N, val_main_v66_apply, val_main_cst_9_apply]
  show Ideal.ofBits .f32 0x00000000#32 + _ = _
  rw [Ideal.ofBits_zero_f32, zero_add]
  refine Finset.sum_congr rfl fun e _ => ?_
  by_cases h : dst e = N
  · rw [if_pos h, if_pos h, v65_apply, h]; rfl
  · rw [if_neg h, if_neg h]

/-- The reference's result: the edges arriving at the node, its own message, and the bias. -/
theorem v72_apply (B : Fin 4) (n : Fin 65536) (o : Fin 96) :
    val_main_v72 (F := Ideal) x w g b (ix3 B n o)
      = (neighbours (carried x w g (B.val * 65536 + n.val) o) (B.val * 65536 + n.val)
          + carried x w g (B.val * 65536 + n.val) o (B.val * 65536 + n.val)) + b (ix1 o) := by
  have hB := B.isLt
  have hn := n.isLt
  have ho := o.isLt
  have hi : idx_main_v72 (ix3 B n o) = ix2 (⟨B.val * 65536 + n.val, by omega⟩ : Node) o := by
    funext a
    apply Fin.ext
    match a with
    | ⟨0, _⟩ => show ((B.val * 65536 + n.val) * 96 + o.val) / 96 = B.val * 65536 + n.val; omega
    | ⟨1, _⟩ => show ((B.val * 65536 + n.val) * 96 + o.val) % 96 = o.val; omega
  rw [val_main_v72_apply, hi, val_main_v71_apply, v68_apply, val_main_v70_apply, val_main_v69_apply]
  refine congrArg₂ (· + ·) rfl (congrArg b ?_)
  funext a
  match a with
  | ⟨0, _⟩ => rfl
end Result

end Cert.ReferenceIdeal.Graph
end
-- ==== Proof.Equation.lean ====
/- The equation: at finite pixels and weights the kernel's array and the reference's are the same. -/
module

public import proofs.«01_k».proof.Proof.RefValue
public import proofs.«01_k».proof.Pre_finite

@[expose] public section

noncomputable section

namespace Cert.Equation

open Idealize.ShloMosaic Idealize.ShloMosaic.ValueIdx
open Cert.KernelIdeal.Rows Cert.ReferenceIdeal.Graph

/-! ## Finite arguments are real numbers -/

/-- The word of the bound reads as plus infinity. -/
theorem ofBits_inf : Ideal.ofBits .f32 0x7F800000#32 = (⊤ : EReal) := by
  simp [Ideal.ofBits, Ideal.ieee]

/-- A number whose magnitude is below plus infinity is a real. -/
theorem real_of_lt {v : EReal} (h : Ideal.cmp .olt (max v (-v)) (Ideal.ofBits .f32 0x7F800000#32) = 1#1) : v = ((v.toReal : ℝ) : EReal) := by
  rw [ofBits_inf] at h
  have hlt : max v (-v) < ⊤ := by
    by_contra hn
    have : Ideal.cmp .olt (max v (-v)) ⊤ = 0#1 := by
      show BitVec.ofBool (decide (max v (-v) < ⊤)) = 0#1
      rw [decide_eq_false hn]; rfl
    rw [this] at h
    exact absurd h (by decide)
  obtain ⟨h1, h2⟩ := max_lt_iff.mp hlt
  refine (EReal.coe_toReal h1.ne ?_).symm
  rintro rfl
  simp at h2

section
variable [Cert.Pre_finite.Facts] (x : FVec Ideal Cert.KernelIdeal.S4x1x512x512 .f32) (w : FVec Ideal Cert.KernelIdeal.S96x1x2x2 .f32)
  (g : FVec Ideal Cert.KernelIdeal.S96x96 .f32) (b : FVec Ideal Cert.KernelIdeal.S96 .f32)

/-- The precondition makes every pixel and every weight a real number. -/
theorem reals_of_pre
    (h : (Cert.Pre_finite.fn (F := Ideal) x w g b).1 = (fun _ => 1#1) ∧ (Cert.Pre_finite.fn (F := Ideal) x w g b).2.1 = (fun _ => 1#1)
      ∧ (Cert.Pre_finite.fn (F := Ideal) x w g b).2.2 = (fun _ => 1#1)) :
    (∀ i, x i = (((x i).toReal : ℝ) : EReal)) ∧ (∀ i, w i = (((w i).toReal : ℝ) : EReal)) ∧ (∀ i, g i = (((g i).toReal : ℝ) : EReal)) :=
  ⟨fun i => real_of_lt (congrFun h.1 i), fun i => real_of_lt (congrFun h.2.1 i), fun i => real_of_lt (congrFun h.2.2 i)⟩
end

/-- A finite sum of reals, read as extended reals. -/
theorem coe_sum {n : Nat} (f : Fin n → ℝ) : ((∑ i, f i : ℝ) : EReal) = ∑ i, ((f i : ℝ) : EReal) := by
  induction n with
  | zero => simp
  | succ n ih => rw [Fin.sum_univ_succ, Fin.sum_univ_succ, EReal.coe_add, ih]

section
variable (x : FVec Ideal Cert.KernelIdeal.S4x1x512x512 .f32) (w : FVec Ideal Cert.KernelIdeal.S96x1x2x2 .f32)
  (g : FVec Ideal Cert.KernelIdeal.S96x96 .f32) (b : FVec Ideal Cert.KernelIdeal.S96 .f32)
  (hx : ∀ i, x i = (((x i).toReal : ℝ) : EReal)) (hw : ∀ i, w i = (((w i).toReal : ℝ) : EReal)) (hg : ∀ i, g i = (((g i).toReal : ℝ) : EReal))
include hx hw hg

/-- A pixel, inside the image or beyond it, is a real number. -/
theorem image_real (B : Fin 4) (r c : Nat) : image x B r c = (((image x B r c).toReal : ℝ) : EReal) := by
  unfold image
  split
  · exact hx _
  · rfl

/-- The two orders of contraction agree: the tap coefficients first (the kernel), the patch features first (the reference).
    Both are the same real number. -/
theorem feature_real (B : Fin 4) (n : Nat) (o : Fin 96) :
    ∃ f : ℝ, feat (coef w g) (image x B) o (n / 256) (n % 256) = (f : EReal) ∧ msg x w g B n o = (f : EReal) := by
  have hp : ∀ k : Fin 4, pixel x B n k = (((pixel x B n k).toReal : ℝ) : EReal) := fun k => image_real x w g hx hw hg B _ _
  have ht : ∀ (e : Fin 96) (k : Fin 4), tap w e k = (((tap w e k).toReal : ℝ) : EReal) := fun e k => hw _
  have hgo : ∀ e : Fin 96, g (ix2 e o) = (((g (ix2 e o)).toReal : ℝ) : EReal) := fun e => hg _
  refine ⟨∑ k : Fin 4, (∑ e : Fin 96, (g (ix2 e o)).toReal * (tap w e k).toReal) * (pixel x B n k).toReal, ?_, ?_⟩
  · rw [coe_sum]
    refine Finset.sum_congr rfl fun k _ => ?_
    rw [EReal.coe_mul, ← hp k, coe_sum]
    refine congrArg (· * pixel x B n k) (Finset.sum_congr rfl fun e _ => ?_)
    rw [EReal.coe_mul, ← hgo e, ← ht e k]
  · have e1 : msg x w g B n o = ((∑ e : Fin 96, (∑ k : Fin 4, (pixel x B n k).toReal * (tap w e k).toReal) * (g (ix2 e o)).toReal : ℝ) : EReal) := by
      rw [coe_sum]
      refine Finset.sum_congr rfl fun e _ => ?_
      rw [EReal.coe_mul, ← hgo e, coe_sum]
      refine congrArg (· * g (ix2 e o)) (Finset.sum_congr rfl fun k _ => ?_)
      rw [EReal.coe_mul, ← hp k, ← ht e k]
    rw [e1]
    congr 1
    simp only [Finset.sum_mul]
    rw [Finset.sum_comm]
    exact Finset.sum_congr rfl fun k _ => Finset.sum_congr rfl fun e _ => by ring

/-- The reals both sides compute with. -/
theorem features_real : ∃ f : Fin 4 → Nat → Fin 96 → ℝ,
    (∀ B n o, feat (coef w g) (image x B) o (n / 256) (n % 256) = (f B n o : EReal)) ∧ ∀ B n o, msg x w g B n o = (f B n o : EReal) :=
  ⟨fun B n o => (feature_real x w g hx hw hg B n o).choose, fun B n o => (feature_real x w g hx hw hg B n o).choose_spec.1,
    fun B n o => (feature_real x w g hx hw hg B n o).choose_spec.2⟩
end

/-! ## The stencil against the sum over edges -/

/-- A guarded real, read as an extended real. -/
theorem ite_coe (p : Prop) [Decidable p] (r : ℝ) : (if p then ((r : ℝ) : EReal) else 0) = (((if p then r else 0) : ℝ) : EReal) := by
  split_ifs <;> rfl

/-- Five scaled reals added and scaled again, against five reals each scaled twice. -/
theorem scale_twice (p q r t : Prop) [Decidable p] [Decidable q] [Decidable r] [Decidable t] (f₀ f₁ f₂ f₃ f₄ s₀ s₁ s₂ s₃ s₄ : ℝ) :
    ((((f₀ : EReal) * (s₀ : EReal) + if p then (f₁ : EReal) * (s₁ : EReal) else 0)
        + ((if q then (f₂ : EReal) * (s₂ : EReal) else 0) + if r then (f₃ : EReal) * (s₃ : EReal) else 0))
        + if t then (f₄ : EReal) * (s₄ : EReal) else 0) * (s₀ : EReal)
      = ((if q then (f₂ : EReal) * ((s₂ : EReal) * (s₀ : EReal)) else 0) + (if p then (f₁ : EReal) * ((s₁ : EReal) * (s₀ : EReal)) else 0)
          + (if t then (f₄ : EReal) * ((s₄ : EReal) * (s₀ : EReal)) else 0) + (if r then (f₃ : EReal) * ((s₃ : EReal) * (s₀ : EReal)) else 0))
        + (f₀ : EReal) * ((s₀ : EReal) * (s₀ : EReal)) := by
  simp only [← EReal.coe_mul, ite_coe, ← EReal.coe_add]
  congr 1
  split_ifs <;> ring

/-- In image 0 a node's normalisation is its grid position's. -/
theorem dinv_grid {N : Nat} (h : N < 65536) : dinv N = scale (N / 256) (N % 256) := if_pos h

section
variable (x : FVec Ideal Cert.KernelIdeal.S4x1x512x512 .f32) (w : FVec Ideal Cert.KernelIdeal.S96x1x2x2 .f32)
  (g : FVec Ideal Cert.KernelIdeal.S96x96 .f32) (b : FVec Ideal Cert.KernelIdeal.S96 .f32)

/-- In image 0 a node's message is that image's. -/
theorem msgAt_grid {s : Nat} (h : s < 65536) (o : Fin 96) : msgAt x w g s o = msg x w g 0 s o := by
  unfold msgAt
  rw [show s % 65536 = s by omega]
  congr 1
  exact Fin.ext (show s / 65536 % 4 = 0 by omega)

variable (hx : ∀ i, x i = (((x i).toReal : ℝ) : EReal)) (hw : ∀ i, w i = (((w i).toReal : ℝ) : EReal)) (hg : ∀ i, g i = (((g i).toReal : ℝ) : EReal))
include hx hw hg

/-- Image 0: the kernel's stencil is the sum over the arriving edges. -/
theorem grid_eq {n : Nat} (hn : n < 65536) (o : Fin 96) :
    stencil (coef w g) (image x 0) o (n / 256) (n % 256) = neighbours (carried x w g n o) n + carried x w g n o n := by
  obtain ⟨f, hf, hm⟩ := features_real x w g hx hw hg
  have hc : ∀ s, s < 65536 → carried x w g n o s = (f 0 s o : EReal) * (((dinv s : ℝ) : EReal) * ((dinv n : ℝ) : EReal)) := fun s hs => by
    unfold carried
    rw [msgAt_grid x w g hs, hm]
  have hs : ∀ s I J, s < 65536 → s / 256 = I → s % 256 = J →
      scaled (coef w g) (image x 0) o I J = (f 0 s o : EReal) * ((dinv s : ℝ) : EReal) := fun s I J hs hI hJ => by
    subst hI hJ
    unfold scaled
    rw [hf, dinv_grid hs]
  have pick : ∀ (p : Prop) [Decidable p] (u v : EReal), (p → u = v) → (if p then u else 0) = if p then v else 0 := fun p _ u v h => by
    split_ifs with hp
    · exact h hp
    · rfl
  rw [neighbours_grid _ hn, hc n hn]
  unfold stencil
  rw [hs n _ _ hn rfl rfl, ← dinv_grid hn,
    pick _ _ _ fun h => hs (n - 256) _ _ (by omega) (by omega) (by omega),
    pick _ _ _ fun h => hs (n + 256) _ _ (by omega) (by omega) (by omega),
    pick _ _ _ fun h => hs (n - 1) _ _ (by omega) (by omega) (by omega),
    pick _ _ _ fun h => hs (n + 1) _ _ (by omega) (by omega) (by omega),
    pick _ (carried x w g n o (n + 256)) _ fun h => hc (n + 256) (by omega),
    pick _ (carried x w g n o (n - 256)) _ fun h => hc (n - 256) (by omega),
    pick _ (carried x w g n o (n + 1)) _ fun h => hc (n + 1) (by omega),
    pick _ (carried x w g n o (n - 1)) _ fun h => hc (n - 1) (by omega)]
  exact scale_twice _ _ _ _ _ _ _ _ _ _ _ _ _ _

/-- The other images: every node keeps its own message. -/
theorem loop_eq (B : Fin 4) (hB : B.val ≠ 0) {n : Nat} (hn : n < 65536) (o : Fin 96) :
    feat (coef w g) (image x B) o (n / 256) (n % 256)
      = neighbours (carried x w g (B.val * 65536 + n) o) (B.val * 65536 + n) + carried x w g (B.val * 65536 + n) o (B.val * 65536 + n) := by
  have hB4 := B.isLt
  obtain ⟨f, hf, hm⟩ := features_real x w g hx hw hg
  have hd : dinv (B.val * 65536 + n) = 1 := if_neg (by omega)
  have hat : msgAt x w g (B.val * 65536 + n) o = msg x w g B n o := by
    unfold msgAt
    rw [show (B.val * 65536 + n) % 65536 = n by omega]
    congr 1
    exact Fin.ext (show (B.val * 65536 + n) / 65536 % 4 = B.val by omega)
  rw [neighbours_other _ (by omega), zero_add]
  unfold carried
  rw [hat, hm, hf, hd, EReal.coe_one, mul_one, mul_one]

/-- The kernel's value is the reference's. -/
theorem value_eq (B : Fin 4) (n : Fin 65536) (o : Fin 96) :
    nodeValue x w g b B o n.val = Cert.ReferenceIdeal.Read.val_main_v72 (F := Ideal) x w g b (ix3 B n o) := by
  rw [v72_apply]
  unfold nodeValue
  refine congrArg (· + b (ix1 o)) ?_
  by_cases hB : B.val = 0
  · obtain rfl : B = 0 := Fin.ext hB
    rw [if_pos hB, grid_eq x w g hx hw hg n.isLt, show (0 : Fin 4).val * 65536 + n.val = n.val by simp]
  · rw [if_neg hB]
    exact loop_eq x w g hx hw hg B hB n.isLt o
end

end Cert.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.ShloMosaic.ValueIdx Idealize.SL.Sem

/-- The side conditions of the precondition's operations. -/
theorem preFacts : Cert.Pre_finite.Facts := ⟨by decide, by decide, by decide⟩

/-- The reference's frame: its run leaves the arguments alone and it has no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

open Cert.KernelIdeal Cert.KernelIdeal.Gen in
/-- The kernel runs and ends with its result array as computed and its arguments unchanged. -/
theorem run_kernel (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5) = Pipeline.afterTail₀ cfgs (dats m) 0 (V0 m) [hostOps1] c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono
    (fun _ h c => ⟨(h.1 c).2 main_v5 (Pipeline.mem_restRefs_of main_v5 (by decide) (by decide)), h.2 c⟩)
    (θ_run_and (run_main m ρ) (unchanged m ρ))

/-- From equal arguments meeting the precondition, the kernel's array is the reference's. -/
theorem result_eq (m : (ℓ : Loc Cert.KernelIdeal.nD Cert.KernelIdeal.τ Cert.KernelIdeal.sig) → Buf (Elt Ideal) ℓ)
    (hpre : Cert.Pre_KernelIdeal_finite (hPre_finite := preFacts) m) (c : Dev Cert.KernelIdeal.nD) :
    Cert.ReferenceIdeal.Read.val_main_v72 (F := Ideal) (Cert.KernelIdeal.Rows.argX m c) (Cert.KernelIdeal.Rows.argW m c)
        (Cert.KernelIdeal.Rows.argG m c) (Cert.KernelIdeal.Rows.argB m c)
      = Pipeline.afterTail₀ Cert.KernelIdeal.cfgs (Cert.KernelIdeal.Gen.dats m) 0 (Cert.KernelIdeal.Gen.V0 m)
          [Cert.KernelIdeal.Gen.hostOps1] c Cert.KernelIdeal.main_v5 := by
  obtain ⟨hx, hw, hg⟩ := @Cert.Equation.reals_of_pre preFacts _ _ _ _ (hpre c)
  funext i
  obtain ⟨B, n, o, rfl⟩ : ∃ (B : Fin 4) (n : Fin 65536) (o : Fin 96), i = ix3 B n o := ⟨i 0, i 1, i 2, eq_ix3 i⟩
  exact (Cert.Equation.value_eq _ _ _ _ hx hw hg B n o).symm.trans (Cert.KernelIdeal.Rows.result_apply m c B n o).symm

/-- The kernel and the reference, from equal finite arguments, end with equal results. -/
theorem algebraic : Cert.algebraic_KernelIdeal_ReferenceIdeal_pre_finite (hKernelIdeal := Cert.KernelIdeal.Gen.facts)
    (hReferenceIdeal := Cert.ReferenceIdeal.Gen.facts) (hPre_finite := preFacts) := fun m g m' g' hpre hargs => by
  refine ⟨_, run_kernel m g, (θ_run Cert.ReferenceIdeal.defs _ _).mono (fun r h c => ⟨(h c).1.trans ?_, (h c).2⟩)
    (Cert.ReferenceIdeal.Value.run (F := Ideal) m' g')⟩
  obtain ⟨h0, h1, h2, h3⟩ := hargs c
  rw [Cert.ReferenceIdeal.Read.val_main_v72_eq, h0, h1, h2, h3]
  exact result_eq m hpre c

/-- Everything claimed: the frames, `preserves`, and equal results. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
